-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_avg" .f32 0x3851B717#32 ((1 / 20000 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S20000x80 : Shape := ⟨2, ![20000, 80]⟩
abbrev S20000x1 : Shape := ⟨2, ![20000, 1]⟩
abbrev S50 : Shape := ⟨1, ![50]⟩
abbrev S20000x50 : Shape := ⟨2, ![20000, 50]⟩
abbrev S_ : Shape := ⟨0, ![]⟩

class Facts : Prop where
  bcast_S_S20000x80 : S_.BroadcastsInDim S20000x80 (![] : Fin 0 → Fin S20000x80.rank)
  bcast_S_S20000x1 : S_.BroadcastsInDim S20000x1 (![] : Fin 0 → Fin S20000x1.rank)
  bcast_S_S50 : S_.BroadcastsInDim S50 (![] : Fin 0 → Fin S50.rank)
  bcast_S_S20000x50 : S_.BroadcastsInDim S20000x50 (![] : Fin 0 → Fin S20000x50.rank)

variable [Facts]

def fn_part1 {F : FTy → Type} [FloatOps F] (main_arg4 : FVec F S20000x80 .f32) (main_arg6 : IVec S_ 32) (main_v4 : IVec S20000x80 1) (main_v9 : IVec S20000x1 1) (main_v11 : IVec S50 1) (main_v16 : IVec S20000x50 1) : IVec S20000x80 1 × IVec S20000x1 1 × IVec S50 1 × IVec S20000x50 1 × IVec S20000x80 1 × IVec S_ 1 :=
  let main_cst_5 : FVec F S_ .f32 := constant S_ .f32 0x3F800000#32
  let main_v17 : FVec F S20000x80 .f32 := broadcastInDim S20000x80 ![] bcast_S_S20000x80 main_cst_5
  let main_v18 : IVec S20000x80 1 := cmpf .oeq main_arg4 main_v17
  let main_c_6 : IVec S_ 32 := constantI S_ 32 20000#32
  let main_v19 : IVec S_ 1 := cmpi .eq main_arg6 main_c_6
  (main_v4, main_v9, main_v11, main_v16, main_v18, main_v19)

def fn {F : FTy → Type} [FloatOps F] (main_arg0 : FVec F S20000x80 .f32) (main_arg1 : FVec F S20000x1 .f32) (main_arg2 : IVec S50 32) (main_arg3 : FVec F S20000x50 .f32) (main_arg4 : FVec F S20000x80 .f32) (main_arg5 : IVec S20000x50 1) (main_arg6 : IVec S_ 32) : IVec S20000x80 1 × IVec S20000x1 1 × IVec S50 1 × IVec S20000x50 1 × IVec S20000x80 1 × IVec S_ 1 :=
  let main_cst : FVec F S_ .f32 := constant S_ .f32 0x00000000#32
  let main_v0 : FVec F S20000x80 .f32 := broadcastInDim S20000x80 ![] bcast_S_S20000x80 main_cst
  let main_v1 : IVec S20000x80 1 := cmpf .oge main_arg0 main_v0
  let main_cst_0 : FVec F S_ .f32 := constant S_ .f32 0x3F7FFFFE#32
  let main_v2 : FVec F S20000x80 .f32 := broadcastInDim S20000x80 ![] bcast_S_S20000x80 main_cst_0
  let main_v3 : IVec S20000x80 1 := cmpf .ole main_arg0 main_v2
  let main_v4 : IVec S20000x80 1 := andi main_v1 main_v3
  let main_cst_1 : FVec F S_ .f32 := constant S_ .f32 0x00000000#32
  let main_v5 : FVec F S20000x1 .f32 := broadcastInDim S20000x1 ![] bcast_S_S20000x1 main_cst_1
  let main_v6 : IVec S20000x1 1 := cmpf .oge main_arg1 main_v5
  let main_cst_2 : FVec F S_ .f32 := constant S_ .f32 0x3F7FFFFE#32
  let main_v7 : FVec F S20000x1 .f32 := broadcastInDim S20000x1 ![] bcast_S_S20000x1 main_cst_2
  let main_v8 : IVec S20000x1 1 := cmpf .ole main_arg1 main_v7
  let main_v9 : IVec S20000x1 1 := andi main_v6 main_v8
  let main_c : IVec S_ 32 := constantI S_ 32 0#32
  let main_v10 : IVec S50 32 := broadcastInDim S50 ![] bcast_S_S50 main_c
  let main_v11 : IVec S50 1 := cmpi .sge main_arg2 main_v10
  let main_cst_3 : FVec F S_ .f32 := constant S_ .f32 0x00000000#32
  let main_v12 : FVec F S20000x50 .f32 := broadcastInDim S20000x50 ![] bcast_S_S20000x50 main_cst_3
  let main_v13 : IVec S20000x50 1 := cmpf .oge main_arg3 main_v12
  let main_cst_4 : FVec F S_ .f32 := constant S_ .f32 0x3F7FFFFE#32
  let main_v14 : FVec F S20000x50 .f32 := broadcastInDim S20000x50 ![] bcast_S_S20000x50 main_cst_4
  let main_v15 : IVec S20000x50 1 := cmpf .ole main_arg3 main_v14
  let main_v16 : IVec S20000x50 1 := andi main_v13 main_v15
  fn_part1 (F := F) main_arg4 main_arg6 main_v4 main_v9 main_v11 main_v16
-- ==== Kernel.lean ====
abbrev S20000x80 : Shape := ⟨2, ![20000, 80]⟩
abbrev S20000x1 : Shape := ⟨2, ![20000, 1]⟩
abbrev S50 : Shape := ⟨1, ![50]⟩
abbrev S20000x50 : Shape := ⟨2, ![20000, 50]⟩
abbrev S_ : Shape := ⟨0, ![]⟩
abbrev S80x20000 : Shape := ⟨2, ![80, 20000]⟩
abbrev S1x20000 : Shape := ⟨2, ![1, 20000]⟩
abbrev S50x20000 : Shape := ⟨2, ![50, 20000]⟩
abbrev S1x50 : Shape := ⟨2, ![1, 50]⟩
abbrev S1x1 : Shape := ⟨2, ![1, 1]⟩
abbrev S80x10240 : Shape := ⟨2, ![80, 10240]⟩
abbrev S1x10240 : Shape := ⟨2, ![1, 10240]⟩
abbrev S50x10240 : Shape := ⟨2, ![50, 10240]⟩
abbrev S50x20480 : Shape := ⟨2, ![50, 20480]⟩
abbrev S80x50 : Shape := ⟨2, ![80, 50]⟩
abbrev S50x50 : Shape := ⟨2, ![50, 50]⟩
abbrev S50x256 : Shape := ⟨2, ![50, 256]⟩
abbrev S50x1 : Shape := ⟨2, ![50, 1]⟩
abbrev S50x128 : Shape := ⟨2, ![50, 128]⟩
abbrev S1x80x10240 : Shape := ⟨3, ![1, 80, 10240]⟩
abbrev S1 : Shape := ⟨1, ![1]⟩
abbrev S1x1x1 : Shape := ⟨3, ![1, 1, 1]⟩

abbrev nBuf : Space → Nat
  | .hbm => 15
  | .vmem => 16
  | .smem => 1
  | _ => 0

abbrev bufTy : (tb : Table) → Fin (tcTables nBuf tb) → BufTy
  | .hbm, ⟨0, _⟩ => ⟨S20000x80, .f32⟩
  | .hbm, ⟨1, _⟩ => ⟨S20000x1, .f32⟩
  | .hbm, ⟨2, _⟩ => ⟨S50, .i32⟩
  | .hbm, ⟨3, _⟩ => ⟨S20000x50, .f32⟩
  | .hbm, ⟨4, _⟩ => ⟨S20000x80, .f32⟩
  | .hbm, ⟨5, _⟩ => ⟨S20000x50, .i1⟩
  | .hbm, ⟨6, _⟩ => ⟨S_, .i32⟩
  | .hbm, ⟨7, _⟩ => ⟨S80x20000, .f32⟩
  | .hbm, ⟨8, _⟩ => ⟨S1x20000, .f32⟩
  | .hbm, ⟨9, _⟩ => ⟨S50x20000, .f32⟩
  | .hbm, ⟨10, _⟩ => ⟨S50x20000, .i1⟩
  | .hbm, ⟨11, _⟩ => ⟨S50x20000, .i8⟩
  | .hbm, ⟨12, _⟩ => ⟨S1x50, .i32⟩
  | .hbm, ⟨13, _⟩ => ⟨S1x1, .f32⟩
  | .hbm, ⟨14, _⟩ => ⟨S_, .f32⟩
  | .local _ .vmem, ⟨0, _⟩ => ⟨S80x10240, .f32⟩
  | .local _ .vmem, ⟨1, _⟩ => ⟨S80x10240, .f32⟩
  | .local _ .vmem, ⟨2, _⟩ => ⟨S1x10240, .f32⟩
  | .local _ .vmem, ⟨3, _⟩ => ⟨S1x10240, .f32⟩
  | .local _ .vmem, ⟨4, _⟩ => ⟨S50x10240, .f32⟩
  | .local _ .vmem, ⟨5, _⟩ => ⟨S50x10240, .f32⟩
  | .local _ .vmem, ⟨6, _⟩ => ⟨S50x10240, .i8⟩
  | .local _ .vmem, ⟨7, _⟩ => ⟨S50x10240, .i8⟩
  | .local _ .vmem, ⟨8, _⟩ => ⟨S1x50, .i32⟩
  | .local _ .vmem, ⟨9, _⟩ => ⟨S50x10240, .f32⟩
  | .local _ .vmem, ⟨10, _⟩ => ⟨S50x10240, .f32⟩
  | .local _ .vmem, ⟨11, _⟩ => ⟨S50x20480, .f32⟩
  | .local _ .vmem, ⟨12, _⟩ => ⟨S50x20480, .f32⟩
  | .local _ .vmem, ⟨13, _⟩ => ⟨S80x50, .f32⟩
  | .local _ .vmem, ⟨14, _⟩ => ⟨S50x50, .f32⟩
  | .local _ .vmem, ⟨15, _⟩ => ⟨S50x256, .f32⟩
  | .local _ .smem, ⟨0, _⟩ => ⟨S1x1, .f32⟩
  | _, _ => ⟨S20000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_off1 (i : grid0.Coords) : Fin 2 → Nat :=
  let c0_8 : Index := 0#32
  let arg0 : BitVec 32 := BitVec.ofNat 32 (i 0).val
  let c10240_i32 : BitVec 32 := 10240#32
  let v15 : BitVec 32 := Scalar.muli arg0 c10240_i32
  let v27 : Index := Scalar.indexCast v15
  ![0, v27.toNat]
def k0_cond5 (i : grid0.Coords) : BitVec 1 :=
  let arg0 : BitVec 32 := BitVec.ofNat 32 (i 0).val
  let c2_i32_2 : BitVec 32 := 2#32
  let v6 : BitVec 1 := Scalar.cmpi .sge arg0 c2_i32_2
  let v7 : BitVec 32 := Scalar.extui v6
  let c0_i32_3 : BitVec 32 := 0#32
  let v8 : BitVec 1 := Scalar.cmpi .ne v7 c0_i32_3
  v8

def k0_off2 (i : grid0.Coords) : Fin 2 → Nat :=
  let c0_7 : Index := 0#32
  let arg0 : BitVec 32 := BitVec.ofNat 32 (i 0).val
  let c2_i32_4 : BitVec 32 := 2#32
  let v9 : BitVec 32 := Scalar.subi arg0 c2_i32_4
  let c10240_i32 : BitVec 32 := 10240#32
  let v10 : BitVec 32 := Scalar.muli v9 c10240_i32
  let v18 : Index := Scalar.indexCast v10
  ![0, v18.toNat]
def k0_cond2 (i : grid0.Coords) : BitVec 1 :=
  let arg0 : BitVec 32 := BitVec.ofNat 32 (i 0).val
  let c0_i32_10 : BitVec 32 := 0#32
  let v37 : BitVec 1 := Scalar.cmpi .eq arg0 c0_i32_10
  let v38 : BitVec 32 := Scalar.extui v37
  let c0_i32_11 : BitVec 32 := 0#32
  let v39 : BitVec 1 := Scalar.cmpi .ne v38 c0_i32_11
  v39

def cc0_transform_0 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S80x10240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x10240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S50x10240 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S50x10240 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x50 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "inv_avg" => some ((1 / 20000 : ℝ) : EReal)
  | _ => none
-- ==== ReferenceIdeal.lean ====
abbrev S20000x80 : Shape := ⟨2, ![20000, 80]⟩
abbrev S20000x1 : Shape := ⟨2, ![20000, 1]⟩
abbrev S50 : Shape := ⟨1, ![50]⟩
abbrev S20000x50 : Shape := ⟨2, ![20000, 50]⟩
abbrev S_ : Shape := ⟨0, ![]⟩
abbrev S50x20000 : Shape := ⟨2, ![50, 20000]⟩
abbrev S50x1 : Shape := ⟨2, ![50, 1]⟩
abbrev S20000 : Shape := ⟨1, ![20000]⟩
abbrev S1x20000 : Shape := ⟨2, ![1, 20000]⟩
abbrev S1000000 : Shape := ⟨1, ![1000000]⟩
abbrev S1000000x1 : Shape := ⟨2, ![1000000, 1]⟩
abbrev S1000000x2 : Shape := ⟨2, ![1000000, 2]⟩

abbrev nBuf : Space → Nat
  | .hbm => 104
  | .vmem => 0
  | .smem => 0
  | _ => 0

abbrev bufTy : (tb : Table) → Fin (tcTables nBuf tb) → BufTy
  | .hbm, ⟨0, _⟩ => ⟨S20000x80, .f32⟩
  | .hbm, ⟨1, _⟩ => ⟨S20000x1, .f32⟩
  | .hbm, ⟨2, _⟩ => ⟨S50, .i32⟩
  | .hbm, ⟨3, _⟩ => ⟨S20000x50, .f32⟩
  | .hbm, ⟨4, _⟩ => ⟨S20000x80, .f32⟩
  | .hbm, ⟨5, _⟩ => ⟨S20000x50, .i1⟩
  | .hbm, ⟨6, _⟩ => ⟨S_, .i32⟩
  | .hbm, ⟨7, _⟩ => ⟨S20000x80, .f32⟩
  | .hbm, ⟨8, _⟩ => ⟨S20000x80, .f32⟩
  | .hbm, ⟨9, _⟩ => ⟨S50x20000, .i1⟩
  | .hbm, ⟨10, _⟩ => ⟨S50x20000, .f32⟩
  | .hbm, ⟨11, _⟩ => ⟨S_, .f32⟩
  | .hbm, ⟨12, _⟩ => ⟨S50x20000, .f32⟩
  | .hbm, ⟨13, _⟩ => ⟨S50x20000, .f32⟩
  | .hbm, ⟨14, _⟩ => ⟨S_, .f32⟩
  | .hbm, ⟨15, _⟩ => ⟨S_, .f32⟩
  | .hbm, ⟨16, _⟩ => ⟨S50x20000, .f32⟩
  | .hbm, ⟨17, _⟩ => ⟨S50x20000, .f32⟩
  | .hbm, ⟨18, _⟩ => ⟨S_, .f32⟩
  | .hbm, ⟨19, _⟩ => ⟨S50x20000, .f32⟩
  | .hbm, ⟨20, _⟩ => ⟨S50x20000, .f32⟩
  | .hbm, ⟨21, _⟩ => ⟨S_, .f32⟩
  | .hbm, ⟨22, _⟩ => ⟨S_, .f32⟩
  | .hbm, ⟨23, _⟩ => ⟨S50x20000, .f32⟩
  | .hbm, ⟨24, _⟩ => ⟨S50x20000, .f32⟩
  | .hbm, ⟨25, _⟩ => ⟨S_, .f32⟩
  | .hbm, ⟨26, _⟩ => ⟨S50, .f32⟩
  | .hbm, ⟨27, _⟩ => ⟨S50x1, .f32⟩
  | .hbm, ⟨28, _⟩ => ⟨S_, .f32⟩
  | .hbm, ⟨29, _⟩ => ⟨S_, .f32⟩
  | .hbm, ⟨30, _⟩ => ⟨S50x20000, .f32⟩
  | .hbm, ⟨31, _⟩ => ⟨S50x20000, .f32⟩
  | .hbm, ⟨32, _⟩ => ⟨S_, .f32⟩
  | .hbm, ⟨33, _⟩ => ⟨S50, .f32⟩
  | .hbm, ⟨34, _⟩ => ⟨S50x1, .f32⟩
  | .hbm, ⟨35, _⟩ => ⟨S50x20000, .f32⟩
  | .hbm, ⟨36, _⟩ => ⟨S50x20000, .f32⟩
  | .hbm, ⟨37, _⟩ => ⟨S_, .f32⟩
  | .hbm, ⟨38, _⟩ => ⟨S50x20000, .f32⟩
  | .hbm, ⟨39, _⟩ => ⟨S50x20000, .f32⟩
  | .hbm, ⟨40, _⟩ => ⟨S50x1, .f32⟩
  | .hbm, ⟨41, _⟩ => ⟨S_, .f32⟩
  | .hbm, ⟨42, _⟩ => ⟨S50x1, .f32⟩
  | .hbm, ⟨43, _⟩ => ⟨S50x1, .f32⟩
  | .hbm, ⟨44, _⟩ => ⟨S50x20000, .f32⟩
  | .hbm, ⟨45, _⟩ => ⟨S50x20000, .f32⟩
  | .hbm, ⟨46, _⟩ => ⟨S20000, .i32⟩
  | .hbm, ⟨47, _⟩ => ⟨S1x20000, .i32⟩
  | .hbm, ⟨48, _⟩ => ⟨S50x20000, .i32⟩
  | .hbm, ⟨49, _⟩ => ⟨S_, .i32⟩
  | .hbm, ⟨50, _⟩ => ⟨S_, .i32⟩
  | .hbm, ⟨51, _⟩ => ⟨S50x20000, .i32⟩
  | .hbm, ⟨52, _⟩ => ⟨S50x20000, .i32⟩
  | .hbm, ⟨53, _⟩ => ⟨S50x1, .i32⟩
  | .hbm, ⟨54, _⟩ => ⟨S50x20000, .i32⟩
  | .hbm, ⟨55, _⟩ => ⟨S_, .f32⟩
  | .hbm, ⟨56, _⟩ => ⟨S20000x80, .f32⟩
  | .hbm, ⟨57, _⟩ => ⟨S1000000, .i32⟩
  | .hbm, ⟨58, _⟩ => ⟨S1000000, .i32⟩
  | .hbm, ⟨59, _⟩ => ⟨S_, .f32⟩
  | .hbm, ⟨60, _⟩ => ⟨S50x20000, .f32⟩
  | .hbm, ⟨61, _⟩ => ⟨S50x20000, .f32⟩
  | .hbm, ⟨62, _⟩ => ⟨S1000000, .f32⟩
  | .hbm, ⟨63, _⟩ => ⟨S_, .i32⟩
  | .hbm, ⟨64, _⟩ => ⟨S1000000, .i32⟩
  | .hbm, ⟨65, _⟩ => ⟨S1000000, .i1⟩
  | .hbm, ⟨66, _⟩ => ⟨S_, .i32⟩
  | .hbm, ⟨67, _⟩ => ⟨S1000000, .i32⟩
  | .hbm, ⟨68, _⟩ => ⟨S1000000, .i32⟩
  | .hbm, ⟨69, _⟩ => ⟨S1000000, .i32⟩
  | .hbm, ⟨70, _⟩ => ⟨S_, .i32⟩
  | .hbm, ⟨71, _⟩ => ⟨S1000000, .i32⟩
  | .hbm, ⟨72, _⟩ => ⟨S1000000, .i1⟩
  | .hbm, ⟨73, _⟩ => ⟨S_, .i32⟩
  | .hbm, ⟨74, _⟩ => ⟨S1000000, .i32⟩
  | .hbm, ⟨75, _⟩ => ⟨S1000000, .i32⟩
  | .hbm, ⟨76, _⟩ => ⟨S1000000, .i32⟩
  | .hbm, ⟨77, _⟩ => ⟨S1000000x1, .i32⟩
  | .hbm, ⟨78, _⟩ => ⟨S1000000x1, .i32⟩
  | .hbm, ⟨79, _⟩ => ⟨S1000000x2, .i32⟩
  | .hbm, ⟨80, _⟩ => ⟨S20000x80, .f32⟩
  | .hbm, ⟨81, _⟩ => ⟨S20000x80, .f32⟩
  | .hbm, ⟨82, _⟩ => ⟨S_, .f32⟩
  | .hbm, ⟨83, _⟩ => ⟨S20000x80, .f32⟩
  | .hbm, ⟨84, _⟩ => ⟨S20000x80, .f32⟩
  | .hbm, ⟨85, _⟩ => ⟨S_, .f32⟩
  | .hbm, ⟨86, _⟩ => ⟨S_, .f32⟩
  | .hbm, ⟨87, _⟩ => ⟨S20000x80, .f32⟩
  | .hbm, ⟨88, _⟩ => ⟨S20000x80, .f32⟩
  | .hbm, ⟨89, _⟩ => ⟨S20000x80, .f32⟩
  | .hbm, ⟨90, _⟩ => ⟨S_, .f32⟩
  | .hbm, ⟨91, _⟩ => ⟨S_, .f32⟩
  | .hbm, ⟨92, _⟩ => ⟨S20000x80, .f32⟩
  | .hbm, ⟨93, _⟩ => ⟨S20000x80, .f32⟩
  | .hbm, ⟨94, _⟩ => ⟨S20000x80, .f32⟩
  | .hbm, ⟨95, _⟩ => ⟨S20000x80, .f32⟩
  | .hbm, ⟨96, _⟩ => ⟨S20000x80, .f32⟩
  | .hbm, ⟨97, _⟩ => ⟨S20000x80, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | _, _ => ⟨S20000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_call2_v0 : Ref sig .tc := ⟨.hbm, 29, rfl⟩
abbrev main_call2_v1 : Ref sig .tc := ⟨.hbm, 30, rfl⟩
abbrev main_v12 : Ref sig .tc := ⟨.hbm, 31, rfl⟩
abbrev main_cst_5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_6 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_7 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c : Ref sig .tc := ⟨.hbm, 49, rfl⟩
abbrev main_call3_v0 : Ref sig .tc := ⟨.hbm, 50, rfl⟩
abbrev main_call3_v1 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_9 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_10 : Ref sig .tc := ⟨.hbm, 63, rfl⟩
abbrev main_v36 : Ref sig .tc := ⟨.hbm, 64, rfl⟩
abbrev main_v37 : Ref sig .tc := ⟨.hbm, 65, rfl⟩
abbrev main_c_11 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_12 : Ref sig .tc := ⟨.hbm, 70, rfl⟩
abbrev main_v41 : Ref sig .tc := ⟨.hbm, 71, rfl⟩
abbrev main_v42 : Ref sig .tc := ⟨.hbm, 72, rfl⟩
abbrev main_c_13 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_14 : Ref sig .tc := ⟨.hbm, 82, rfl⟩
abbrev main_v51 : Ref sig .tc := ⟨.hbm, 83, rfl⟩
abbrev main_v52 : Ref sig .tc := ⟨.hbm, 84, rfl⟩
abbrev main_cst_15 : Ref sig .tc := ⟨.hbm, 85, rfl⟩
abbrev main_call4_v0 : Ref sig .tc := ⟨.hbm, 86, rfl⟩
abbrev main_call4_v1 : Ref sig .tc := ⟨.hbm, 87, rfl⟩
abbrev main_v53 : Ref sig .tc := ⟨.hbm, 88, rfl⟩
abbrev main_v54 : Ref sig .tc := ⟨.hbm, 89, rfl⟩
abbrev main_cst_16 : Ref sig .tc := ⟨.hbm, 90, rfl⟩
abbrev main_call5_v0 : Ref sig .tc := ⟨.hbm, 91, rfl⟩
abbrev main_call5_v1 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_17 : Ref sig .tc := ⟨.hbm, 98, rfl⟩
abbrev main_v60 : Ref sig .tc := ⟨.hbm, 99, rfl⟩
abbrev main_cst_18 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩

abbrev nD : Nat := 1
abbrev τ : Topo := Topo.v7x

variable {F : FTy → Type} [FloatOps F]
-- ==== Proof.KernelRun.lean ====
/-
  The kernel's frame. The body is run at each of its four points from any contents of the output's buffer and of the
  seven scratch buffers; nothing is said of what it leaves there. The input buffers are handed back as found.
-/
module

public import proofs.«01_k».proof.Proof.Gen.Kernel.Frame
public import proofs.«01_k».proof.Proof.Gen.Kernel.Skeleton
public import Idealize.ShloMosaic.Lib.Pipeline.Frame
public import Idealize.ShloMosaic.Lib.Tactic
public import Idealize.ShloMosaic.Lib.Transfers

@[expose] public section

noncomputable section

namespace Cert.KernelRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Window BodyObligationLoose)

variable {F : FTy → Type} [FloatOps F]

local notation "𝕄" => MT nD τ sig Unit (Elt F) ℕ (UR sig nD τ) ℕ

/-- The column at which a point of the second phase reads the saved rows. -/
instance closedOff2_2 : ClosedOff (k0_off2 (grid0.coords t0_2)) := ⟨![0, 0], by decide⟩
instance closedOff2_3 : ClosedOff (k0_off2 (grid0.coords t0_3)) := ⟨![0, 10240], by decide⟩

/-- A buffer owned at some contents. -/
def held (c : Dev nD) {sp : Space} {s : Shape} {e : EltTy} (M : Memref sig .tc sp s e) : sProp 𝕄 :=
  iprop(∃ d : s.Idx → Elt F e, owns (c : Thread nD τ) M fullShare d)

/-- The body at a point: the five inputs at what they hold, the output and the scratch at anything; all handed back, the
    inputs as they were. -/
theorem bodyRun (c : Dev nD) (t : Fin cfg0.N)
    (arg1 : Memref sig .tc .vmem S80x10240 .f32) (harg1 : arg1.IsWhole) (arg2 : Memref sig .tc .vmem S1x10240 .f32) (harg2 : arg2.IsWhole)
    (arg3 : Memref sig .tc .vmem S50x10240 .f32) (harg3 : arg3.IsWhole) (arg4 : Memref sig .tc .vmem S50x10240 .i8) (harg4 : arg4.IsWhole)
    (arg5 : Memref sig .tc .vmem S1x50 .i32) (harg5 : arg5.IsWhole) (arg6 : Memref sig .tc .smem S1x1 .f32) (harg6 : arg6.IsWhole)
    (arg7 : Memref sig .tc .vmem S50x10240 .f32) (harg7 : arg7.IsWhole) (arg8 : Memref sig .tc .vmem S50x10240 .f32) (harg8 : arg8.IsWhole)
    (arg9 : Memref sig .tc .vmem S50x20480 .f32) (harg9 : arg9.IsWhole) (arg10 : Memref sig .tc .vmem S50x20480 .f32) (harg10 : arg10.IsWhole)
    (arg11 : Memref sig .tc .vmem S80x50 .f32) (harg11 : arg11.IsWhole) (arg12 : Memref sig .tc .vmem S50x50 .f32) (harg12 : arg12.IsWhole)
    (arg13 : Memref sig .tc .vmem S50x256 .f32) (harg13 : arg13.IsWhole)
    (X1 : S80x10240.Idx → Elt F .f32) (X2 : S1x10240.Idx → Elt F .f32) (X3 : S50x10240.Idx → Elt F .f32)
    (X4 : S50x10240.Idx → Elt F .i8) (X5 : S1x50.Idx → Elt F .i32) (K : PUnit → sProp 𝕄) :
    iprop((owns (c : Thread nD τ) arg1 fullShare X1 ∗ owns (c : Thread nD τ) arg2 fullShare X2
          ∗ owns (c : Thread nD τ) arg3 fullShare X3 ∗ owns (c : Thread nD τ) arg4 fullShare X4
          ∗ owns (c : Thread nD τ) arg5 fullShare X5)
        ∗ (held (F := F) c arg6 ∗ held (F := F) c arg7 ∗ held (F := F) c arg8 ∗ held (F := F) c arg9 ∗ held (F := F) c arg10
          ∗ held (F := F) c arg11 ∗ held (F := F) c arg12 ∗ held (F := F) c arg13)
        ∗ (iprop((owns (c : Thread nD τ) arg1 fullShare X1 ∗ owns (c : Thread nD τ) arg2 fullShare X2
            ∗ owns (c : Thread nD τ) arg3 fullShare X3 ∗ owns (c : Thread nD τ) arg4 fullShare X4
            ∗ owns (c : Thread nD τ) arg5 fullShare X5)
          ∗ (held (F := F) c arg6 ∗ held (F := F) c arg7 ∗ held (F := F) c arg8 ∗ held (F := F) c arg9 ∗ held (F := F) c arg10
          ∗ held (F := F) c arg11 ∗ held (F := F) c arg12 ∗ held (F := F) c arg13)) -∗ K ⟨⟩))
      ⊢ wp frame (wpE (defs₀ (F := F)) Variants.none c none) Set.univ
          (cc0__fused_kernel (grid0.coords t) arg1 harg1 arg2 harg2 arg3 harg3 arg4 harg4 arg5 harg5 arg6 harg6 arg7 harg7 arg8 harg8
            arg9 harg9 arg10 harg10 arg11 harg11 arg12 harg12 arg13 harg13) K := by
  simp only [cc0__fused_kernel_eq_skeleton]; unfold cc0__fused_kernel_skel held owns
  rcases fin_N0 t with rfl | rfl | rfl | rfl
  all_goals
    iintro ⟨⟨⟨%f1, %h1, H1⟩, ⟨%f2, %h2, H2⟩, ⟨%f3, %h3, H3⟩, ⟨%f4, %h4, H4⟩, ⟨%f5, %h5, H5⟩⟩,
      ⟨⟨%d6, %f6, -, H6⟩, ⟨%d7, %f7, -, H7⟩, ⟨%d8, %f8, -, H8⟩, ⟨%d9, %f9, -, H9⟩, ⟨%d10, %f10, -, H10⟩, ⟨%d11, %f11, -, H11⟩,
        ⟨%d12, %f12, -, H12⟩, ⟨%d13, %f13, -, H13⟩⟩, Hk⟩
    sl_exec (disch := decide)
    sl_step
    iapply Hk
    isplitl [H1 H2 H3 H4 H5]
    · isplitl [H1]
      · iexists f1; isplitr; · ipureintro; exact h1
        iexact H1
      isplitl [H2]
      · iexists f2; isplitr; · ipureintro; exact h2
        iexact H2
      isplitl [H3]
      · iexists f3; isplitr; · ipureintro; exact h3
        iexact H3
      isplitl [H4]
      · iexists f4; isplitr; · ipureintro; exact h4
        iexact H4
      iexists f5; isplitr; · ipureintro; exact h5
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

variable (m : (ℓ : Loc nD τ sig) → Buf (Elt F) ℓ) (ρ : Dev nD → PrngReg)

/-! ## The proof data -/

/-- Only the output window is forgotten: nothing here reads what the body leaves in it. -/
def forgets0 : Fin 6 → Bool := fun | 5 => true | _ => false

/-- The proof data: each array as the region finds it; each input buffer keeps its block (past the array's end, anything);
    the scratch and the generator register at anything; full shares; nothing owed. -/
def dats (_ : Fin 1) (c : Dev nD) : Dat τ (Elt F) Unit ℕ (UR sig nD τ) ℕ cfg0 c where
  A w := V m c (Pipeline.arrRef spec0 w)
  after w t := (cfg0.win w).fill (cfg0.grid.coords t) (Pipeline.Dat.unnamed (cfg := cfg0) w t) (iblk m c w t)
  Φ _ := Pipeline.ΦA spec0 c
  q _ := fullShare
  owed _ := 0

theorem A_eq (c : Dev nD) (w : Fin cfg0.W) : (dats m 0 c).A w = V m c (Pipeline.arrRef spec0 w) := by dsimp only [dats]

/-- What a buffer is left at, cut to the part inside the array, is its block. -/
theorem after_cut (c : Dev nD) (w : Fin cfg0.W) (t : Fin cfg0.N) :
    (cfg0.win w).cut (cfg0.grid.coords t) ((dats m 0 c).after w t) = (dats m 0 c).blockOf w t :=
  (cfg0.win w).cut_fill _ _ _

/-- An input buffer holds its block at every point, fetched there or not, and past the array's end anything. -/
theorem before_in (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t')) (t : Fin cfg0.N) (d) :
    (dats m 0 c).before w t d = (cfg0.win w).fill (cfg0.grid.coords t) d (iblk m c w t) :=
  (dats m 0 c).before_in_eq_fetched w hw hlive hclip (after_cut m c w) t d

theorem before_0 (c : Dev nD) (t : Fin cfg0.N) (d) : (dats m 0 c).before 0 t d = win0_0.fill (grid0.coords t) d (iblk m c 0 t) :=
  before_in m c 0 rfl (fun _ => rfl) (fun _ _ h => congrArg (fun ix a => Pipeline.Clip.of (ix a) (S80x10240.size a) (S80x20000.size a)) h) t d
theorem before_1 (c : Dev nD) (t : Fin cfg0.N) (d) : (dats m 0 c).before 1 t d = win0_1.fill (grid0.coords t) d (iblk m c 1 t) :=
  before_in m c 1 rfl (fun _ => rfl) (fun _ _ h => congrArg (fun ix a => Pipeline.Clip.of (ix a) (S1x10240.size a) (S1x20000.size a)) h) t d
theorem before_2 (c : Dev nD) (t : Fin cfg0.N) (d) : (dats m 0 c).before 2 t d = win0_2.fill (grid0.coords t) d (iblk m c 2 t) :=
  before_in m c 2 rfl (fun _ => rfl) (fun _ _ h => congrArg (fun ix a => Pipeline.Clip.of (ix a) (S50x10240.size a) (S50x20000.size a)) h) t d
theorem before_3 (c : Dev nD) (t : Fin cfg0.N) (d) : (dats m 0 c).before 3 t d = win0_3.fill (grid0.coords t) d (iblk m c 3 t) :=
  before_in m c 3 rfl (fun _ => rfl) (fun _ _ h => congrArg (fun ix a => Pipeline.Clip.of (ix a) (S50x10240.size a) (S50x20000.size a)) h) t d
theorem before_4 (c : Dev nD) (t : Fin cfg0.N) (d) : (dats m 0 c).before 4 t d = iblk m c 4 t :=
  before_in m c 4 rfl (fun _ => rfl) (fun _ _ _ => rfl) t d

/-- The scratch opened buffer by buffer. -/
theorem ΦA_eq (c : Dev nD) : (Pipeline.ΦA spec0 c : sProp 𝕄)
    = iprop((held (F := F) c (Memref.whole cc0_scratch0) ∗ held (F := F) c (Memref.whole cc0_scratch1) ∗ held (F := F) c (Memref.whole cc0_scratch2)
        ∗ held (F := F) c (Memref.whole cc0_scratch3) ∗ held (F := F) c (Memref.whole cc0_scratch4) ∗ held (F := F) c (Memref.whole cc0_scratch5)
        ∗ held (F := F) c (Memref.whole cc0_scratch6)) ∗ ∃ r, prngReg c r) := by
  unfold Pipeline.ΦA held; rw [scopedRest0_eq]; simp only [owns_whole]; try rfl

/-- The body table's row at a point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ forgets0 := fun t => by
  rw [bigSep_W0, bigSep_W0, defs₀_row]
  simp only [forgets0]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, ΦA_eq]
  unfold held
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, H5⟩
  rw [before_0 m c t d0, before_1 m c t d1, before_2 m c t d2, before_3 m c t d3, before_4 m c t d4]
  have hrun := bodyRun (F := F) c t (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t)) (iblk m c 4 t)
  unfold held at hrun
  iapply (hrun _)
  isplitl [H0 H1 H2 H3 H4]
  · isplitl [H0]; · iexact H0
    isplitl [H1]; · iexact H1
    isplitl [H2]; · iexact H2
    isplitl [H3]; · iexact H3
    iexact H4
  isplitl [H5 HS0 HS1 HS2 HS3 HS4 HS5 HS6]
  · isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    iexact HS6
  iintro ⟨⟨H0, H1, H2, H3, H4⟩, H5, HS⟩
  isplitl [HS Hg]
  · isplitl [HS]; · iexact HS
    iexact Hg
  isplitl [Ho]; · iexact Ho
  isplitl [H0]
  · iexists d0
    change _ ⊢ owns (c : Thread nD τ) (st0_0 t) fullShare (win0_0.fill (grid0.coords t) d0 ((cfg0.win 0).cut (cfg0.grid.coords t) ((dats m 0 c).after 0 t)))
    rw [after_cut]; exact .rfl
  isplitl [H1]
  · iexists d1
    change _ ⊢ owns (c : Thread nD τ) (st0_1 t) fullShare (win0_1.fill (grid0.coords t) d1 ((cfg0.win 1).cut (cfg0.grid.coords t) ((dats m 0 c).after 1 t)))
    rw [after_cut]; exact .rfl
  isplitl [H2]
  · iexists d2
    change _ ⊢ owns (c : Thread nD τ) (st0_2 t) fullShare (win0_2.fill (grid0.coords t) d2 ((cfg0.win 2).cut (cfg0.grid.coords t) ((dats m 0 c).after 2 t)))
    rw [after_cut]; exact .rfl
  isplitl [H3]
  · iexists d3
    change _ ⊢ owns (c : Thread nD τ) (st0_3 t) fullShare (win0_3.fill (grid0.coords t) d3 ((cfg0.win 3).cut (cfg0.grid.coords t) ((dats m 0 c).after 3 t)))
    rw [after_cut]; exact .rfl
  isplitl [H4]; · iexact H4
  iexact H5

/-- The one buffer the host line after the region writes. -/
theorem tail_writes : ∀ ops ∈ ([hostOps1] : List (List (HloOp τ sig (Elt F)))), ∀ op ∈ ops, ∀ b : Ref sig .tc,
    Proc.devRef .tc b ∈ op.writes → b ∈ ({main_v7} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  exact Finset.mem_singleton.mpr (Proc.devRef_injective _ hb)

set_option backward.isDefEq.respectTransparency.types false in
/-- The run: it ends, with every buffer the region does not stage at what it held before it, but the one the host line
    after it writes, and every counter at zero. -/
theorem run_main :
    θ_run defs (onTc (τ := τ) (main (F := F))) (s₀ m ρ)
      (fun r => Pipeline.RDat.FramePostR (cfgs 0) (fun c => (dats m 0 c).toRForget forgets0) {main_v7} (V m) r ∧ r.2.sem = fun _ => 0) :=
  Pipeline.θ_run_frame_around_T_forget (Q' := _) cfgs (dats m) (0 : Fin 1) launch0 defs₀ Variants.none forgets0 {main_v7} m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- A buffer the region does not stage and no host line after it writes is at the end what it was at the region. -/
theorem rest_end {r : PUnit × MemSt nD τ sig (Elt F)}
    (h : Pipeline.RDat.FramePostR (cfgs 0) (fun c => (dats (F := F) m 0 c).toRForget forgets0) {main_v7} (V m) r) (c : Dev nD)
    (b : Ref sig .tc) (hb : b ∈ Pipeline.restRefs sig spec0) (hne : b ∉ ({main_v7} : Finset (Ref sig .tc))) :
    r.2.mem ((c : Thread nD τ).loc b) = V m c b :=
  (h c).2 b (Finset.mem_sdiff.mpr ⟨hb, hne⟩)

/-- The frame: every argument array ends as launched and every counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c =>
    ⟨(rest_end m h.1 c main_arg0 (Pipeline.mem_restRefs_of _ (by decide) (by decide)) (by decide)).trans (V_main_arg0 m c),
     (rest_end m h.1 c main_arg1 (Pipeline.mem_restRefs_of _ (by decide) (by decide)) (by decide)).trans (V_main_arg1 m c),
     (rest_end m h.1 c main_arg2 (Pipeline.mem_restRefs_of _ (by decide) (by decide)) (by decide)).trans (V_main_arg2 m c),
     (rest_end m h.1 c main_arg3 (Pipeline.mem_restRefs_of _ (by decide) (by decide)) (by decide)).trans (V_main_arg3 m c),
     (rest_end m h.1 c main_arg4 (Pipeline.mem_restRefs_of _ (by decide) (by decide)) (by decide)).trans (V_main_arg4 m c),
     (rest_end m h.1 c main_arg5 (Pipeline.mem_restRefs_of _ (by decide) (by decide)) (by decide)).trans (V_main_arg5 m c),
     (rest_end m h.1 c main_arg6 (Pipeline.mem_restRefs_of _ (by decide) (by decide)) (by decide)).trans (V_main_arg6 m c)⟩, h.2⟩) (run_main m ρ)

end Cert.KernelRun

end
-- ==== Proof.IdealBody.lean ====
/-
  The body of the idealized kernel at its four points, with what it leaves in every buffer.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.ReadBack
public import Idealize.ShloMosaic.Lib.Pipeline.ValueKit
public import Idealize.ShloMosaic.Lib.WritesUnit
public import Idealize.ShloMosaic.Lib.VecWindow
public import Idealize.ShloMosaic.Lib.Tactic
public import Idealize.ShloMosaic.Lib.Transfers

@[expose] public section

set_option maxRecDepth 16384

noncomputable section

namespace Cert.IdealBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The column at which a point of the second phase reads the saved rows. -/
instance closedOff2_2 : ClosedOff (k0_off2 (grid0.coords t0_2)) := ⟨![0, 0], by decide⟩
instance closedOff2_3 : ClosedOff (k0_off2 (grid0.coords t0_3)) := ⟨![0, 10240], by decide⟩

/-- The two halves of a saved row, and the two columns that the finished statistics are read from. -/
abbrev left : Rect S50x20480 := Rect.unit (s := S50x20480) ![0, 0] S50x10240.size (by decide)
abbrev right : Rect S50x20480 := Rect.unit (s := S50x20480) ![0, 10240] S50x10240.size (by decide)
abbrev colMin : Rect S50x256 := Rect.unit (s := S50x256) ![0, 0] S50x1.size (by decide)
abbrev colInv : Rect S50x256 := Rect.unit (s := S50x256) ![0, 128] S50x1.size (by decide)
abbrev colIn : Rect S50x128 := Rect.unit (s := S50x128) ![0, 0] S50x1.size (by decide)

/-- A buffer owned at some contents. -/
def held (c : Dev nD) {sp : Space} {s : Shape} {e : EltTy} (M : Memref sig .tc sp s e) : sProp 𝕄 :=
  iprop(∃ d : s.Idx → Elt F e, owns (c : Thread nD τ) M fullShare d)

variable (c : Dev nD)
    (arg1 : Memref sig .tc .vmem S80x10240 .f32) (harg1 : arg1.IsWhole) (arg2 : Memref sig .tc .vmem S1x10240 .f32) (harg2 : arg2.IsWhole)
    (arg3 : Memref sig .tc .vmem S50x10240 .f32) (harg3 : arg3.IsWhole) (arg4 : Memref sig .tc .vmem S50x10240 .i8) (harg4 : arg4.IsWhole)
    (arg5 : Memref sig .tc .vmem S1x50 .i32) (harg5 : arg5.IsWhole) (arg6 : Memref sig .tc .smem S1x1 .f32) (harg6 : arg6.IsWhole)
    (arg7 : Memref sig .tc .vmem S50x10240 .f32) (harg7 : arg7.IsWhole) (arg8 : Memref sig .tc .vmem S50x10240 .f32) (harg8 : arg8.IsWhole)
    (arg9 : Memref sig .tc .vmem S50x20480 .f32) (harg9 : arg9.IsWhole) (arg10 : Memref sig .tc .vmem S50x20480 .f32) (harg10 : arg10.IsWhole)
    (arg11 : Memref sig .tc .vmem S80x50 .f32) (harg11 : arg11.IsWhole) (arg12 : Memref sig .tc .vmem S50x50 .f32) (harg12 : arg12.IsWhole)
    (arg13 : Memref sig .tc .vmem S50x256 .f32) (harg13 : arg13.IsWhole)
    (X1 : S80x10240.Idx → Elt F .f32) (X2 : S1x10240.Idx → Elt F .f32) (X3 : S50x10240.Idx → Elt F .f32)
    (X4 : S50x10240.Idx → Elt F .i8) (X5 : S1x50.Idx → Elt F .i32)

/-- The five inputs, owned at what they hold. -/
def ins : sProp 𝕄 :=
  iprop(owns (c : Thread nD τ) arg1 fullShare X1 ∗ owns (c : Thread nD τ) arg2 fullShare X2 ∗ owns (c : Thread nD τ) arg3 fullShare X3
    ∗ owns (c : Thread nD τ) arg4 fullShare X4 ∗ owns (c : Thread nD τ) arg5 fullShare X5)

/-- The output and the seven scratch buffers, at contents of which `P` holds. -/
def state (P : (S1x1.Idx → Elt F .f32) → (S50x10240.Idx → Elt F .f32) → (S50x10240.Idx → Elt F .f32) → (S50x20480.Idx → Elt F .f32)
    → (S50x20480.Idx → Elt F .f32) → (S80x50.Idx → Elt F .f32) → (S50x50.Idx → Elt F .f32) → (S50x256.Idx → Elt F .f32) → Prop) : sProp 𝕄 :=
  iprop(∃ Y6 Y7 Y8 Y9 Y10 Y11 Y12 Y13, ⌜P Y6 Y7 Y8 Y9 Y10 Y11 Y12 Y13⌝
    ∗ owns (c : Thread nD τ) arg6 fullShare Y6 ∗ owns (c : Thread nD τ) arg7 fullShare Y7 ∗ owns (c : Thread nD τ) arg8 fullShare Y8
    ∗ owns (c : Thread nD τ) arg9 fullShare Y9 ∗ owns (c : Thread nD τ) arg10 fullShare Y10 ∗ owns (c : Thread nD τ) arg11 fullShare Y11
    ∗ owns (c : Thread nD τ) arg12 fullShare Y12 ∗ owns (c : Thread nD τ) arg13 fullShare Y13)

/-- What a load takes from the rectangle that the newest store filled is what was stored. -/
theorem ld_hit {sp : Space} {s : Shape} {e : EltTy} (v : View sig .tc sp s e) (f : v.ty.Contents (Elt F)) {off off' size : Fin s.rank → ℕ}
    (inb : ∀ a, off a + size a ≤ s.size a) (inb' : ∀ a, off' a + size a ≤ s.size a)
    (w : (Rect.unit off size inb).shape.Idx → Elt F e) (L : List (View.Piece (Elt F) s e)) (h : off = off') :
    View.ld (v.read (Elt F) (v.writes (Elt F) f (⟨Rect.unit off size inb, w⟩ :: L))) (Rect.unit off' size inb') = w := by
  subst h; funext x
  exact View.read_writes_cons_emb v f (Rect.unit off size inb) w L x

/-- A load from inside the rectangle that the newest store filled takes that part of what was stored. -/
theorem ld_within {sp : Space} {s : Shape} {e : EltTy} (v : View sig .tc sp s e) (f : v.ty.Contents (Elt F)) {off off' size : Fin s.rank → ℕ}
    (inb : ∀ a, off a + size a ≤ s.size a) {size' : Fin s.rank → ℕ} (inb' : ∀ a, off' a + size' a ≤ s.size a)
    (w : (Rect.unit off size inb).shape.Idx → Elt F e) (L : List (View.Piece (Elt F) s e))
    {off'' : Fin s.rank → ℕ} {inb'' : ∀ a, off'' a + size' a ≤ size a}
    (h : ∀ (x : (Rect.unit off' size' inb').shape.Idx) (a : Fin s.rank), off' a = off a + off'' a) :
    View.ld (v.read (Elt F) (v.writes (Elt F) f (⟨Rect.unit off size inb, w⟩ :: L))) (Rect.unit off' size' inb')
      = View.ld (S := ⟨s.rank, size⟩) w (Rect.unit (s := ⟨s.rank, size⟩) off'' size' inb'') := by
  funext x
  refine View.read_writes_cons_unit_of_mem v f inb w L _ _ rfl fun a => ?_
  have hx : ((Rect.unit off' size' inb').emb x a).val = off' a + (x a).val := by
    show off' a + 1 * (x a).val = _; rw [Nat.one_mul]
  have hy : ((Rect.unit (s := ⟨s.rank, size⟩) off'' size' inb'').emb x a).val = off'' a + (x a).val := by
    show off'' a + 1 * (x a).val = _; rw [Nat.one_mul]
  show ((Rect.unit off' size' inb').emb x a).val = off a + ((Rect.unit (s := ⟨s.rank, size⟩) off'' size' inb'').emb x a).val
  rw [hx, hy, h x a, Nat.add_assoc]

/-- Loads from rectangles at equal offsets take the same. -/
theorem ld_off {s : Shape} {e : EltTy} (X : s.Idx → Elt F e) {off off' : Fin s.rank → ℕ} (h : off = off') (size : Fin s.rank → ℕ)
    (inb : ∀ a, off a + size a ≤ s.size a) (inb' : ∀ a, off' a + size a ≤ s.size a) :
    View.ld X (Rect.unit off size inb) = View.ld X (Rect.unit off' size inb') := by
  subst h; rfl

/-- A load from a rectangle that the newest store does not meet takes what lay there before. -/
theorem ld_miss {sp : Space} {s : Shape} {e : EltTy} (v : View sig .tc sp s e) (f : v.ty.Contents (Elt F)) {off off' size size' : Fin s.rank → ℕ}
    (inb : ∀ a, off a + size a ≤ s.size a) (inb' : ∀ a, off' a + size' a ≤ s.size a)
    (w : (Rect.unit off size inb).shape.Idx → Elt F e) (L : List (View.Piece (Elt F) s e)) (a : Fin s.rank)
    (h : off' a + size' a ≤ off a ∨ off a + size a ≤ off' a) :
    View.ld (v.read (Elt F) (v.writes (Elt F) f (⟨Rect.unit off size inb, w⟩ :: L))) (Rect.unit off' size' inb')
      = View.ld (v.read (Elt F) (v.writes (Elt F) f L)) (Rect.unit off' size' inb') := by
  funext x
  refine View.read_writes_cons_unit_of_not_mem v f inb w L _ rfl a ?_
  have hx : ((Rect.unit off' size' inb').emb x a).val = off' a + (x a).val := by
    show off' a + 1 * (x a).val = _; rw [Nat.one_mul]
  have hlt : (x a).val < size' a := (x a).isLt
  show ((Rect.unit off' size' inb').emb x a).val < _ ∨ _ ≤ ((Rect.unit off' size' inb').emb x a).val
  omega

/-- What the body at a point leaves, from the five inputs' contents and what the output's buffer and the scratch held.
    The first two points clear the output, or keep it, and gather what the second phase reads: the least and the greatest
    overlap so far in each column, the overlaps and the marks of this block of positions, the classes' selector and the
    matrix of later rivals. The last two add one block's term to the output. -/
def leaves (t : Fin cfg0.N) (v6 : Elt F .f32) (Y7 Y8 : S50x10240.Idx → Elt F .f32) (Y9 Y10 : S50x20480.Idx → Elt F .f32)
    (Y11 : S80x50.Idx → Elt F .f32) (Y12 : S50x50.Idx → Elt F .f32) (Y13 : S50x256.Idx → Elt F .f32)
    (Z6 : S1x1.Idx → Elt F .f32) (Z7 Z8 : S50x10240.Idx → Elt F .f32) (Z9 Z10 : S50x20480.Idx → Elt F .f32)
    (Z11 : S80x50.Idx → Elt F .f32) (Z12 : S50x50.Idx → Elt F .f32) (Z13 : S50x256.Idx → Elt F .f32) : Prop :=
  (t = t0_0 → Z6 = (fun _ => Scalar.ofBits .f32 0x00000000#32) ∧ Z7 = k0_pay7 (grid0.coords t0_0) X3 X4
      ∧ Z8 = k0_pay8 (grid0.coords t0_0) X3 X4 ∧ View.ld Z9 left = k0_pay5 X3
      ∧ View.ld Z10 left = k0_pay6 (grid0.coords t0_0) X4 ∧ Z11 = k0_pay10 X5 ∧ Z12 = k0_pay11 X5)
  ∧ (t = t0_1 → Z6 = (fun _ => v6) ∧ Z7 = k0_pay12 (grid0.coords t0_1) X3 X4 Y7 ∧ Z8 = k0_pay13 (grid0.coords t0_1) X3 X4 Y8
      ∧ View.ld Z9 left = View.ld Y9 left ∧ View.ld Z9 right = k0_pay5 X3 ∧ View.ld Z10 left = View.ld Y10 left
      ∧ View.ld Z10 right = k0_pay6 (grid0.coords t0_1) X4 ∧ Z11 = Y11 ∧ Z12 = Y12)
  ∧ (t = t0_2 → Z6 = (fun _ => k0_pay17 (k0_pay18 2#32) (k0_pay19 (View.ld (k0_pay15 Y7) colIn) (View.ld (k0_pay16 Y7 Y8) colIn)
        (View.ld Y9 left) (View.ld Y10 left) Y12 Y11) X1 X2 v6)
      ∧ View.ld Z13 colMin = View.ld (k0_pay15 Y7) colIn ∧ View.ld Z13 colInv = View.ld (k0_pay16 Y7 Y8) colIn
      ∧ Z9 = Y9 ∧ Z10 = Y10 ∧ Z11 = Y11 ∧ Z12 = Y12)
  ∧ (t = t0_3 → Z6 = (fun _ => k0_pay17 (k0_pay18 3#32) (k0_pay19 (View.ld Y13 colMin) (View.ld Y13 colInv)
        (View.ld Y9 right) (View.ld Y10 right) Y12 Y11) X1 X2 v6))

/-- The body at a point, run from any contents of its buffers: the inputs are handed back as found and the rest at what
    `leaves` says. -/
theorem body_run (t : Fin cfg0.N) (v6 : Elt F .f32) (Y7 Y8 : S50x10240.Idx → Elt F .f32) (Y9 Y10 : S50x20480.Idx → Elt F .f32)
    (Y11 : S80x50.Idx → Elt F .f32) (Y12 : S50x50.Idx → Elt F .f32) (Y13 : S50x256.Idx → Elt F .f32) (K : PUnit → sProp 𝕄) :
    iprop(ins c arg1 arg2 arg3 arg4 arg5 X1 X2 X3 X4 X5
        ∗ (owns (c : Thread nD τ) arg6 fullShare (fun _ => v6) ∗ owns (c : Thread nD τ) arg7 fullShare Y7 ∗ owns (c : Thread nD τ) arg8 fullShare Y8
          ∗ owns (c : Thread nD τ) arg9 fullShare Y9 ∗ owns (c : Thread nD τ) arg10 fullShare Y10 ∗ owns (c : Thread nD τ) arg11 fullShare Y11
          ∗ owns (c : Thread nD τ) arg12 fullShare Y12 ∗ owns (c : Thread nD τ) arg13 fullShare Y13)
        ∗ (iprop(ins c arg1 arg2 arg3 arg4 arg5 X1 X2 X3 X4 X5 ∗ state c arg6 arg7 arg8 arg9 arg10 arg11 arg12 arg13
            (leaves X1 X2 X3 X4 X5 t v6 Y7 Y8 Y9 Y10 Y11 Y12 Y13)) -∗ K ⟨⟩))
      ⊢ wp frame (wpE (defs₀ (F := F)) Variants.none c none) Set.univ
          (cc0__fused_kernel (grid0.coords t) arg1 harg1 arg2 harg2 arg3 harg3 arg4 harg4 arg5 harg5 arg6 harg6 arg7 harg7 arg8 harg8
            arg9 harg9 arg10 harg10 arg11 harg11 arg12 harg12 arg13 harg13) K := by
  simp only [cc0__fused_kernel_eq_skeleton]; unfold cc0__fused_kernel_skel ins state owns
  rcases fin_N0 t with rfl | rfl | rfl | rfl
  all_goals
    iintro ⟨⟨⟨%f1, %h1, H1⟩, ⟨%f2, %h2, H2⟩, ⟨%f3, %h3, H3⟩, ⟨%f4, %h4, H4⟩, ⟨%f5, %h5, H5⟩⟩,
        ⟨⟨%f6, %h6, H6⟩, ⟨%f7, %h7, H7⟩, ⟨%f8, %h8, H8⟩, ⟨%f9, %h9, H9⟩, ⟨%f10, %h10, H10⟩, ⟨%f11, %h11, H11⟩,
          ⟨%f12, %h12, H12⟩, ⟨%f13, %h13, H13⟩⟩, Hk⟩
    sl_exec (disch := decide)
    sl_step
    iapply Hk
    isplitl [H1 H2 H3 H4 H5]
    · isplitl [H1]
      · iexists f1; isplitr; · ipureintro; exact h1
        iexact H1
      isplitl [H2]
      · iexists f2; isplitr; · ipureintro; exact h2
        iexact H2
      isplitl [H3]
      · iexists f3; isplitr; · ipureintro; exact h3
        iexact H3
      isplitl [H4]
      · iexists f4; isplitr; · ipureintro; exact h4
        iexact H4
      iexists f5; isplitr; · ipureintro; exact h5
      iexact H5
    iexists _, _, _, _, _, _, _, _
    isplitr; swap
    · isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; rfl
      isplitl [H10]
      · iexists _; isplitr; swap; · iexact H10
        ipureintro; rfl
      isplitl [H11]
      · iexists _; isplitr; swap; · iexact H11
        ipureintro; rfl
      isplitl [H12]
      · iexists _; isplitr; swap; · iexact H12
        ipureintro; rfl
      iexists _; isplitr; swap; · iexact H13
      ipureintro; rfl
    ipureintro
  · refine ⟨fun _ => ?_, fun h => absurd h (by decide), fun h => absurd h (by decide), fun h => absurd h (by decide)⟩
    subst h3 h4 h5
    sl_unfold_words
    simp (disch := decide) only [View.readAt_eq_ld, View.ld_unit_lit]
    refine ⟨View.read_writes_full _ _ _ _ _, View.read_writes_full _ _ _ _ _, View.read_writes_full _ _ _ _ _, ld_hit _ _ _ _ _ _ (by decide),
      ld_hit _ _ _ _ _ _ (by decide), View.read_writes_full _ _ _ _ _, View.read_writes_full _ _ _ _ _⟩
  · refine ⟨fun h => absurd h (by decide), fun _ => ?_, fun h => absurd h (by decide), fun h => absurd h (by decide)⟩
    subst h3 h4 h7 h8 h9 h10 h11 h12
    sl_unfold_words
    simp (disch := decide) only [View.readAt_eq_ld, View.ld_unit_lit]
    refine ⟨h6, View.read_writes_full _ _ _ _ _, View.read_writes_full _ _ _ _ _, ld_miss _ _ _ _ _ _ (1 : Fin 2) (by decide),
      ld_hit _ _ _ _ _ _ (by decide), ld_miss _ _ _ _ _ _ (1 : Fin 2) (by decide), ld_hit _ _ _ _ _ _ (by decide), trivial, trivial⟩
  · refine ⟨fun h => absurd h (by decide), fun h => absurd h (by decide), fun _ => ?_, fun h => absurd h (by decide)⟩
    subst h1 h2 h7 h8 h9 h10 h11 h12
    sl_unfold_words
    simp (disch := decide) only [View.readAt_eq_ld, View.ld_unit_lit]
    refine ⟨?_, (ld_miss _ _ _ _ _ _ (1 : Fin 2) (by decide)).trans (ld_within _ _ _ _ _ _ fun x a => by fin_cases a <;> simp [colIn]),
      ld_within _ _ _ _ _ _ fun x a => by fin_cases a <;> simp [colIn], trivial, trivial, trivial, trivial⟩
    rw [View.read_writes_full]; funext x
    have e9 := ld_off (View.read (Elt F) arg9.view f9)
      (show ![0, BitVec.toNat (Scalar.indexCast (Scalar.muli (Scalar.subi (BitVec.ofNat 32 (grid0.coords t0_2 0).val) 2#32) 10240#32))] = ![0, 0] by decide)
      S50x10240.size (by decide) (by decide)
    have e10 := ld_off (View.read (Elt F) arg10.view f10)
      (show ![0, BitVec.toNat (Scalar.indexCast (Scalar.muli (Scalar.subi (BitVec.ofNat 32 (grid0.coords t0_2 0).val) 2#32) 10240#32))] = ![0, 0] by decide)
      S50x10240.size (by decide) (by decide)
    have e13 : arg13.view.readCov (Val := Elt F) [⟨Rect.unit ![0, 128] ![50, 128] inb_S50x256_S50x128_0_128, k0_pay16 (View.read (Elt F) arg7.view f7) (View.read (Elt F) arg8.view f8)⟩,
        ⟨Rect.unit ![0, 0] ![50, 128] inb_S50x256_S50x128_0_0, k0_pay15 (View.read (Elt F) arg7.view f7)⟩] colMin.toLoadRect
        = View.ld (k0_pay15 (View.read (Elt F) arg7.view f7)) colIn :=
      (ld_miss arg13.view arg13.view.junk _ _ _ _ (1 : Fin 2) (by decide)).trans (ld_within _ _ _ _ _ _ fun x a => by fin_cases a <;> simp [colIn])
    have e13' : arg13.view.readCov (Val := Elt F) [⟨Rect.unit ![0, 128] ![50, 128] inb_S50x256_S50x128_0_128, k0_pay16 (View.read (Elt F) arg7.view f7) (View.read (Elt F) arg8.view f8)⟩,
        ⟨Rect.unit ![0, 0] ![50, 128] inb_S50x256_S50x128_0_0, k0_pay15 (View.read (Elt F) arg7.view f7)⟩] colInv.toLoadRect
        = View.ld (k0_pay16 (View.read (Elt F) arg7.view f7) (View.read (Elt F) arg8.view f8)) colIn :=
      ld_within (F := F) arg13.view arg13.view.junk inb_S50x256_S50x128_0_128 (by decide) _ _ fun x a => by fin_cases a <;> simp [colIn]
    simp only [e9, e10, e13, e13', h6]
    rfl
  · refine ⟨fun h => absurd h (by decide), fun h => absurd h (by decide), fun h => absurd h (by decide), fun _ => ?_⟩
    subst h1 h2 h9 h10 h11 h12 h13
    sl_unfold_words
    simp (disch := decide) only [View.readAt_eq_ld, View.ld_unit_lit]
    rw [View.read_writes_full]; funext x
    have e9 := ld_off (View.read (Elt F) arg9.view f9)
      (show ![0, BitVec.toNat (Scalar.indexCast (Scalar.muli (Scalar.subi (BitVec.ofNat 32 (grid0.coords t0_3 0).val) 2#32) 10240#32))] = ![0, 10240] by decide)
      S50x10240.size (by decide) (by decide)
    have e10 := ld_off (View.read (Elt F) arg10.view f10)
      (show ![0, BitVec.toNat (Scalar.indexCast (Scalar.muli (Scalar.subi (BitVec.ofNat 32 (grid0.coords t0_3 0).val) 2#32) 10240#32))] = ![0, 10240] by decide)
      S50x10240.size (by decide) (by decide)
    simp only [e9, e10, h6]
    rfl

end Cert.IdealBody

end
-- ==== Proof.Spec.lean ====
/-
  What the kernel computes, written at the extended reals over the argument arrays: plain functions of a ground-truth
  column `g`, a class `k` and a position `p`. The launch is shown to store `out`; the reference is compared with it.
-/
module

public import proofs.«01_k».proof.Proof.IdealBody
public import Idealize.ShloMosaic.Lib.Pointwise
public import Idealize.ShloMosaic.Lib.IdealHost

@[expose] public section

noncomputable section

namespace Cert.Spec

open Idealize.ShloMosaic
open scoped BigOperators

/-- The argument arrays that the kernel reads, at coordinates. -/
structure Args where
  cls : Fin 20000 → Fin 80 → EReal
  obj : Fin 20000 → EReal
  lab : Fin 50 → BitVec 32
  io : Fin 20000 → Fin 50 → EReal
  mask : Fin 20000 → Fin 50 → BitVec 1

/-- The constants of the program, as its words read at the extended reals. -/
def big : EReal := Ideal.ofBits .f32 0x7149F2CA#32
def low : EReal := Ideal.ofBits .f32 0xF149F2CA#32
def eps : EReal := Ideal.ofBits .f32 0x2B8CBCCC#32
def half : EReal := Ideal.ofBits .f32 0x3F000000#32
def two : EReal := Ideal.ofBits .f32 0x40000000#32
def floor : EReal := Ideal.ofBits .f32 0xC2C80000#32

/-- A block's column `j` as a position of the array, for a column inside it. -/
abbrev pos (b : ℕ) (j : Fin 10240) (h : b * 10240 + j.val < 20000) : Fin 20000 := ⟨b * 10240 + j.val, h⟩

variable (A : Args)

/-- A mask element as a number. -/
def mf (g : Fin 50) (p : Fin 20000) : EReal := if A.mask p g = 1#1 then 1 else 0

/-- Column `j` of block `b` in the running minimum: the overlap where the mask is set, the large constant elsewhere. -/
def lo (b : ℕ) (g : Fin 50) (j : Fin 10240) : EReal :=
  if h : b * 10240 + j.val < 20000 then (if A.mask (pos b j h) g = 1#1 then A.io (pos b j h) g else big) else big

/-- The same in the running maximum. -/
def hi (b : ℕ) (g : Fin 50) (j : Fin 10240) : EReal :=
  if h : b * 10240 + j.val < 20000 then (if A.mask (pos b j h) g = 1#1 then A.io (pos b j h) g else low) else low

/-- The weight `1 / max (1 - x, eps)` of the least overlap of a column, -/
def least (g : Fin 50) : EReal :=
  Ideal.div 1 (max (1 - Finset.univ.fold min ⊤ fun j => min (lo A 0 g j) (lo A 1 g j)) eps)

/-- and of the greatest. -/
def most (g : Fin 50) : EReal :=
  Ideal.div 1 (max (1 - Finset.univ.fold max ⊥ fun j => max (hi A 0 g j) (hi A 1 g j)) eps)

/-- The reciprocal of the spread of the weights of a column. -/
def scale (g : Fin 50) : EReal := Ideal.div 1 (most A g - least A g + eps)

/-- The selector of a column's class. -/
def oh (k : Fin 80) (g : Fin 50) : EReal := if BitVec.ofNat 32 k.val = A.lab g then 1 else 0

/-- Whether `g'` is a later column than `g` of the same class, as a number. -/
def rival (g' g : Fin 50) : EReal := if g.val < g'.val then ∑ k, oh A k g' * oh A k g else 0

/-- One minus the normalised weight of an overlap. -/
def val (g : Fin 50) (p : Fin 20000) : EReal :=
  1 - (Ideal.div 1 (1 - A.io p g) - least A g + eps) * scale A g

/-- The mask of a column at a position where no later column of its class is marked, zero elsewhere. -/
def winner (g : Fin 50) (p : Fin 20000) : EReal := if ∑ g', rival A g' g * mf A g' p < half then mf A g p else 0

/-- The joint score of a class at a position, times its weight. -/
def joint (k : Fin 80) (p : Fin 20000) : EReal :=
  A.cls p k * A.obj p * min ((∑ g, oh A k g * ((val A g p - two) * winner A g p)) + two) 1

/-- The term of the sum at a class and a position. -/
def term (k : Fin 80) (p : Fin 20000) : EReal :=
  joint A k p * joint A k p * max (Ideal.log (1 - joint A k p)) floor

/-- The sum of the terms of one block of positions. -/
def blockSum (b : ℕ) : EReal :=
  ∑ k : Fin 80, ∑ j : Fin 10240, if h : b * 10240 + j.val < 20000 then term A k (pos b j h) else 0

/-- What the output holds after each point: zero, then one block's sum, then both, each negated and averaged. -/
def acc : ℕ → EReal
  | 0 => 0
  | 1 => 0
  | 2 => 0 + (0 - blockSum A 0) * ((1 / 20000 : ℝ) : EReal)
  | _ => 0 + (0 - blockSum A 0) * ((1 / 20000 : ℝ) : EReal) + (0 - blockSum A 1) * ((1 / 20000 : ℝ) : EReal)

end Cert.Spec

end
-- ==== Proof.Step.lean ====
/-
  What one point of the grid does to the scratch, at coordinates: each payload of the body read at an index and named by
  the functions of `Spec`, and from these the step from what holds before a point to what holds after it.
-/
module

public import proofs.«01_k».proof.Proof.Spec

@[expose] public section

set_option maxRecDepth 16384

noncomputable section

namespace Cert.Step

open Cert.KernelIdeal Cert.KernelIdeal.Gen Cert.IdealBody Cert.Spec
open Idealize.ShloMosaic Idealize.ShloMosaic.Pointwise

/-! ## Small facts about bits and words -/

/-- The comparison of a block's column with the array's end. -/
theorem valid_bit (b : ℕ) (hb : b ≤ 1) (j : Fin 10240) :
    IntOp.cmpi .slt (IntOp.addi (BitVec.ofNat 32 j.val) (Scalar.muli (BitVec.ofNat 32 b) 10240#32)) 20000#32
      = if b * 10240 + j.val < 20000 then 1#1 else 0#1 := by
  have hj := j.isLt
  have e : (BitVec.ofNat 32 j.val + BitVec.ofNat 32 b * 10240#32) = BitVec.ofNat 32 (b * 10240 + j.val) := by
    apply BitVec.eq_of_toNat_eq; simp [BitVec.toNat_ofNat]; omega
  have e' : (BitVec.ofNat 32 (b * 10240 + j.val)).toInt = (b * 10240 + j.val : ℕ) := by
    rw [BitVec.toInt_eq_toNat_of_lt] <;> simp only [BitVec.toNat_ofNat] <;> rw [Nat.mod_eq_of_lt (by omega)]; omega
  unfold IntOp.cmpi IntOp.addi Scalar.muli IntOp.muli
  simp only [e, BitVec.slt, e']
  by_cases h : b * 10240 + j.val < 20000
  · rw [if_pos h, decide_eq_true (by simp; omega)]; rfl
  · rw [if_neg h, decide_eq_false (by simp; omega)]; rfl

/-- A bit converted to a number. -/
theorem bit_float (x : BitVec 1) : (FloatOps.sitofp FTy.f32 (BitVec.setWidth 32 x) : Ideal .f32) = if x = 1#1 then (1 : EReal) else 0 := by
  rcases (by decide : ∀ x : BitVec 1, x = 0#1 ∨ x = 1#1) x with rfl | rfl
  · show ((((0#1).setWidth 32).toInt : ℝ) : EReal) = _; simp
  · show ((((1#1).setWidth 32).toInt : ℝ) : EReal) = _; simp

/-- The words that start the two reductions. -/
theorem inf_word : Ideal.ofBits .f32 0x7F800000#32 = ⊤ := by simp [Ideal.ofBits, Ideal.ieee]
theorem ninf_word : Ideal.ofBits .f32 0xFF800000#32 = ⊥ := by simp [Ideal.ofBits, Ideal.ieee]

/-- The comparison of two words for equality as a condition. -/
theorem eq_bit (x y : BitVec 32) : (IntOp.cmpi .eq x y = 1#1) ↔ x = y := by
  unfold IntOp.cmpi; by_cases h : x = y
  · simp [h]
  · rw [beq_false_of_ne h]; simp [h]

/-- The comparison of two column numbers as a condition. -/
theorem later_bit (g' g : Fin 50) : (IntOp.cmpi .sgt (BitVec.ofNat 32 g'.val) (BitVec.ofNat 32 g.val) = 1#1) ↔ g.val < g'.val := by
  have h1 := g.isLt; have h2 := g'.isLt
  have e (x : ℕ) (hx : x < 50) : (BitVec.ofNat 32 x).toInt = x := by
    rw [BitVec.toInt_eq_toNat_of_lt] <;> simp only [BitVec.toNat_ofNat] <;> omega
  unfold IntOp.cmpi
  simp only [BitVec.slt, e _ h1, e _ h2]
  by_cases h : g.val < g'.val <;> simp [h]

/-- A load of the one column. -/
theorem ld_colIn {F : FTy → Type} (X : S50x128.Idx → Elt F .f32) (g : Fin 50) : View.ld X colIn (ix2 g 0) = X (ix2 g 0) := by
  pointwise

/-! ## The blocks fetched -/

variable (A : Args)

/-- The five input buffers hold block `a` of the scores and block `b` of the overlaps and the mask, on the columns inside the
    arrays; past their end, anything. -/
structure Fetched (a b : ℕ) (X1 : S80x10240.Idx → Elt Ideal .f32) (X2 : S1x10240.Idx → Elt Ideal .f32) (X3 : S50x10240.Idx → Elt Ideal .f32)
    (X4 : S50x10240.Idx → Elt Ideal .i8) (X5 : S1x50.Idx → Elt Ideal .i32) : Prop where
  cls : ∀ k j (h : a * 10240 + j.val < 20000), X1 (ix2 k j) = A.cls (pos a j h) k
  obj : ∀ j (h : a * 10240 + j.val < 20000), X2 (ix2 0 j) = A.obj (pos a j h)
  io : ∀ g j (h : b * 10240 + j.val < 20000), X3 (ix2 g j) = A.io (pos b j h) g
  mask : ∀ g j (h : b * 10240 + j.val < 20000), IntOp.cmpi .ne (X4 (ix2 g j)) 0#8 = A.mask (pos b j h) g
  lab : ∀ g, X5 (ix2 0 g) = A.lab g

section
variable {a b : ℕ} {X1 : S80x10240.Idx → Elt Ideal .f32} {X2 : S1x10240.Idx → Elt Ideal .f32} {X3 : S50x10240.Idx → Elt Ideal .f32}
    {X4 : S50x10240.Idx → Elt Ideal .i8} {X5 : S1x50.Idx → Elt Ideal .i32} (hX : Fetched A a b X1 X2 X3 X4 X5)
include hX

/-- The mark of a column of a block: its mask inside the array, clear past its end. -/
theorem mark_eq (i : grid0.Coords) (hi : (i 0).val = b) (hb : b ≤ 1) (g : Fin 50) (j : Fin 10240) :
    k0_pay2 i X4 (ix2 g j) = if h : b * 10240 + j.val < 20000 then A.mask (pos b j h) g else 0#1 := by
  pointwise [k0_pay2]
  rw [hi, valid_bit b hb]
  split
  · next h =>
    rw [hX.mask g j h]
    generalize A.mask (pos b j h) g = x
    revert x; decide
  · generalize IntOp.cmpi CmpIPredicate.ne (X4 (ix2 g j)) 0#8 = x
    revert x; decide

theorem lo_eq (i : grid0.Coords) (hi : (i 0).val = b) (hb : b ≤ 1) (g : Fin 50) (j : Fin 10240) :
    k0_pay3 i X3 X4 (ix2 g j) = lo A b g j := by
  pointwise [k0_pay3, k0_pay1]
  rw [mark_eq A hX i hi hb g j]; unfold lo Scalar.select
  by_cases h : b * 10240 + j.val < 20000
  · rw [dif_pos h, dif_pos h, hX.io g j h]; rfl
  · rw [dif_neg h, dif_neg h]; rfl

theorem hi_eq (i : grid0.Coords) (hi' : (i 0).val = b) (hb : b ≤ 1) (g : Fin 50) (j : Fin 10240) :
    k0_pay4 i X3 X4 (ix2 g j) = hi A b g j := by
  pointwise [k0_pay4, k0_pay1]
  rw [mark_eq A hX i hi' hb g j]; unfold hi Scalar.select
  by_cases h : b * 10240 + j.val < 20000
  · rw [dif_pos h, dif_pos h, hX.io g j h]; rfl
  · rw [dif_neg h, dif_neg h]; rfl

theorem saved_io (g : Fin 50) (j : Fin 10240) (h : b * 10240 + j.val < 20000) : k0_pay5 X3 (ix2 g j) = A.io (pos b j h) g := by
  pointwise [k0_pay5, k0_pay1]
  exact hX.io g j h

theorem saved_mark (i : grid0.Coords) (hi : (i 0).val = b) (hb : b ≤ 1) (g : Fin 50) (j : Fin 10240) (h : b * 10240 + j.val < 20000) :
    (k0_pay6 (F := Ideal) i X4 (ix2 g j) : EReal) = mf A g (pos b j h) := by
  pointwise [k0_pay6]
  rw [mark_eq A hX i hi hb g j, dif_pos h, bit_float]; rfl

theorem oh_eq (k : Fin 80) (g : Fin 50) : (k0_pay9 (F := Ideal) X5 (ix2 k g) : EReal) = oh A k g := by
  pointwise [k0_pay9]
  rw [bit_float, hX.lab g]; unfold oh
  exact if_congr (eq_bit _ _) rfl rfl

theorem rival_eq (g' g : Fin 50) : (k0_pay11 (F := Ideal) X5 (ix2 g' g) : EReal) = rival A g' g := by
  pointwise [k0_pay11]
  simp only [oh_eq A hX]; unfold rival Scalar.select
  exact if_congr (later_bit g' g) rfl rfl

end

/-! ## The second phase -/

theorem least_eq (Y7 : S50x10240.Idx → Elt Ideal .f32) (h7 : ∀ g j, Y7 (ix2 g j) = min (lo A 0 g j) (lo A 1 g j)) (g : Fin 50) :
    (k0_pay14 (F := Ideal) Y7 (ix2 g 0) : EReal) = least A g := by
  pointwise [k0_pay14]
  simp only [h7, inf_word]; rfl

theorem scale_eq (Y7 Y8 : S50x10240.Idx → Elt Ideal .f32) (h7 : ∀ g j, Y7 (ix2 g j) = min (lo A 0 g j) (lo A 1 g j))
    (h8 : ∀ g j, Y8 (ix2 g j) = max (hi A 0 g j) (hi A 1 g j)) (g : Fin 50) :
    (k0_pay16 (F := Ideal) Y7 Y8 (ix2 g 0) : EReal) = scale A g := by
  pointwise [k0_pay16]
  simp only [h8]
  rw [least_eq A Y7 h7, ninf_word]; rfl

/-- The body's term at a point of the second phase: the sum of one block, whatever the buffers hold past the arrays' end. -/
theorem block_eq (b : ℕ) (hb : b ≤ 1) (v15 : IVec S1x10240 1) (v44 : FVec Ideal S80x10240 .f32) (X1 : S80x10240.Idx → Elt Ideal .f32)
    (X2 : S1x10240.Idx → Elt Ideal .f32) (v : EReal)
    (h15 : ∀ j, v15 (ix2 0 j) = if b * 10240 + j.val < 20000 then 1#1 else 0#1)
    (h44 : ∀ k j (h : b * 10240 + j.val < 20000), v44 (ix2 k j) = ∑ g, oh A k g * ((val A g (pos b j h) - two) * winner A g (pos b j h)))
    (h1 : ∀ k j (h : b * 10240 + j.val < 20000), X1 (ix2 k j) = A.cls (pos b j h) k)
    (h2 : ∀ j (h : b * 10240 + j.val < 20000), X2 (ix2 0 j) = A.obj (pos b j h)) :
    k0_pay17 (F := Ideal) v15 v44 X1 X2 v = v + (0 - blockSum A b) * ((1 / 20000 : ℝ) : EReal) := by
  pointwise [k0_pay17]
  unfold blockSum
  refine congrArg₂ (· + ·) rfl (congrArg₂ (· * ·) (congrArg _ (Finset.sum_congr rfl fun k _ => Finset.sum_congr rfl fun j _ => ?_)) rfl)
  rw [h15]; unfold Scalar.select
  by_cases h : b * 10240 + j.val < 20000
  · rw [if_pos h, dif_pos h, if_pos (by rfl), h44 k j h, h1 k j h, h2 j h]; rfl
  · rw [if_neg h, dif_neg h, if_neg (by decide)]

/-- The weights' deviation, summed over the columns of a class, at a position inside the arrays. -/
theorem delta_eq (b : ℕ) (v16 : S50x1.Idx → Elt Ideal .f32) (v17 : S50x1.Idx → Elt Ideal .f32) (v19 v21 : S50x10240.Idx → Elt Ideal .f32)
    (v34 : S50x50.Idx → Elt Ideal .f32) (v43 : S80x50.Idx → Elt Ideal .f32)
    (h16 : ∀ g, v16 (ix2 g 0) = least A g) (h17 : ∀ g, v17 (ix2 g 0) = scale A g)
    (h19 : ∀ g j (h : b * 10240 + j.val < 20000), v19 (ix2 g j) = A.io (pos b j h) g)
    (h21 : ∀ g j (h : b * 10240 + j.val < 20000), v21 (ix2 g j) = mf A g (pos b j h))
    (h34 : ∀ g' g, v34 (ix2 g' g) = rival A g' g) (h43 : ∀ k g, v43 (ix2 k g) = oh A k g)
    (k : Fin 80) (j : Fin 10240) (h : b * 10240 + j.val < 20000) :
    (k0_pay19 (F := Ideal) v16 v17 v19 v21 v34 v43 (ix2 k j) : EReal) = ∑ g, oh A k g * ((val A g (pos b j h) - two) * winner A g (pos b j h)) := by
  pointwise [k0_pay19]
  simp only [h16, h17, h19 _ j h, h21 _ j h, h34, h43]; rfl

theorem valid_eq (b : ℕ) (hb : b ≤ 1) (j : Fin 10240) :
    k0_pay18 (BitVec.ofNat 32 (b + 2)) (ix2 0 j) = if b * 10240 + j.val < 20000 then 1#1 else 0#1 := by
  pointwise [k0_pay18]
  rw [← valid_bit b hb j]
  rcases (by omega : b = 0 ∨ b = 1) with rfl | rfl <;> rfl

/-! ## The step -/

/-- What the scratch holds before point `n` (after point `n - 1`): the running extremes, the saved overlaps and marks of the
    blocks passed, the classes' selector and the rivals, and after point 2 the finished statistics. -/
structure Inv (n : ℕ) (Y7 Y8 : S50x10240.Idx → Elt Ideal .f32) (Y9 Y10 : S50x20480.Idx → Elt Ideal .f32)
    (Y11 : S80x50.Idx → Elt Ideal .f32) (Y12 : S50x50.Idx → Elt Ideal .f32) (Y13 : S50x256.Idx → Elt Ideal .f32) : Prop where
  first : n = 1 → ∀ g j, Y7 (ix2 g j) = lo A 0 g j ∧ Y8 (ix2 g j) = hi A 0 g j
  both : n = 2 → ∀ g j, Y7 (ix2 g j) = min (lo A 0 g j) (lo A 1 g j) ∧ Y8 (ix2 g j) = max (hi A 0 g j) (hi A 1 g j)
  left : 1 ≤ n → n ≤ 2 → ∀ g j (h : 0 * 10240 + j.val < 20000),
    View.ld Y9 left (ix2 g j) = A.io (pos 0 j h) g ∧ View.ld Y10 left (ix2 g j) = mf A g (pos 0 j h)
  right : 2 ≤ n → n ≤ 3 → ∀ g j (h : 1 * 10240 + j.val < 20000),
    View.ld Y9 right (ix2 g j) = A.io (pos 1 j h) g ∧ View.ld Y10 right (ix2 g j) = mf A g (pos 1 j h)
  classes : 1 ≤ n → n ≤ 3 → (∀ k g, Y11 (ix2 k g) = oh A k g) ∧ ∀ g' g, Y12 (ix2 g' g) = rival A g' g
  stats : n = 3 → ∀ g, View.ld Y13 colMin (ix2 g 0) = least A g ∧ View.ld Y13 colInv (ix2 g 0) = scale A g

/-- A point takes what holds before it to what holds after it, and leaves the output at `acc`. -/
theorem step {X1 : S80x10240.Idx → Elt Ideal .f32} {X2 : S1x10240.Idx → Elt Ideal .f32} {X3 : S50x10240.Idx → Elt Ideal .f32}
    {X4 : S50x10240.Idx → Elt Ideal .i8} {X5 : S1x50.Idx → Elt Ideal .i32} (t : Fin cfg0.N)
    (hX : Fetched A (t.val / 3) (min t.val 1) X1 X2 X3 X4 X5) {v6 : EReal} (hv : ∀ n, t.val = n + 1 → v6 = acc A n)
    {Y7 Y8 : S50x10240.Idx → Elt Ideal .f32} {Y9 Y10 : S50x20480.Idx → Elt Ideal .f32}
    {Y11 : S80x50.Idx → Elt Ideal .f32} {Y12 : S50x50.Idx → Elt Ideal .f32} {Y13 : S50x256.Idx → Elt Ideal .f32}
    (hY : Inv A t.val Y7 Y8 Y9 Y10 Y11 Y12 Y13)
    {Z6 : S1x1.Idx → Elt Ideal .f32} {Z7 Z8 : S50x10240.Idx → Elt Ideal .f32} {Z9 Z10 : S50x20480.Idx → Elt Ideal .f32}
    {Z11 : S80x50.Idx → Elt Ideal .f32} {Z12 : S50x50.Idx → Elt Ideal .f32} {Z13 : S50x256.Idx → Elt Ideal .f32}
    (h : leaves (F := Ideal) X1 X2 X3 X4 X5 t v6 Y7 Y8 Y9 Y10 Y11 Y12 Y13 Z6 Z7 Z8 Z9 Z10 Z11 Z12 Z13) :
    Z6 = (fun _ => acc A t.val) ∧ Inv A (t.val + 1) Z7 Z8 Z9 Z10 Z11 Z12 Z13 := by
  obtain ⟨h0, h1, h2, h3⟩ := h
  rcases fin_N0 t with rfl | rfl | rfl | rfl
  · obtain ⟨e6, e7, e8, e9, e10, e11, e12⟩ := h0 rfl
    refine ⟨?_, ⟨fun _ g j => ⟨?_, ?_⟩, fun h => absurd h (by decide), fun _ _ g j h => ⟨?_, ?_⟩, fun h => absurd h (by decide),
      fun _ _ => ⟨fun k g => ?_, fun g' g => ?_⟩, fun h => absurd h (by decide)⟩⟩
    · rw [e6]; funext x; exact Ideal.ofBits_zero_f32
    · rw [e7]; pointwise [k0_pay7]; exact lo_eq A hX _ rfl (by decide) g j
    · rw [e8]; pointwise [k0_pay8]; exact hi_eq A hX _ rfl (by decide) g j
    · rw [e9]; exact saved_io A hX g j h
    · rw [e10]; exact saved_mark A hX _ rfl (by decide) g j h
    · rw [e11]; pointwise [k0_pay10]; exact oh_eq A hX k g
    · rw [e12]; exact rival_eq A hX g' g
  · obtain ⟨e6, e7, e8, e9, e9', e10, e10', rfl, rfl⟩ := h1 rfl
    refine ⟨?_, ⟨fun h => absurd h (by decide), fun _ g j => ⟨?_, ?_⟩, fun _ _ g j h => ?_, fun _ _ g j h => ⟨?_, ?_⟩,
      fun _ _ => hY.classes (by decide) (by decide), fun h => absurd h (by decide)⟩⟩
    · rw [e6, hv 0 rfl]; rfl
    · rw [e7]; pointwise [k0_pay12]; rw [lo_eq A hX _ rfl (by decide) g j, (hY.first rfl g j).1]; rfl
    · rw [e8]; pointwise [k0_pay13]; rw [hi_eq A hX _ rfl (by decide) g j, (hY.first rfl g j).2]; rfl
    · rw [e9, e10]; exact hY.left (by decide) (by decide) g j h
    · rw [e9']; exact saved_io A hX g j h
    · rw [e10']; exact saved_mark A hX _ rfl (by decide) g j h
  · obtain ⟨e6, e13, e13', rfl, rfl, rfl, rfl⟩ := h2 rfl
    have hmin (g : Fin 50) : (k0_pay15 (F := Ideal) Y7 (ix2 g 0) : EReal) = least A g := by
      pointwise [k0_pay15]; exact least_eq A Y7 (fun g j => (hY.both rfl g j).1) g
    have hinv (g : Fin 50) : (k0_pay16 (F := Ideal) Y7 Y8 (ix2 g 0) : EReal) = scale A g :=
      scale_eq A Y7 Y8 (fun g j => (hY.both rfl g j).1) (fun g j => (hY.both rfl g j).2) g
    have hc := hY.classes (by decide) (by decide)
    refine ⟨?_, ⟨fun h => absurd h (by decide), fun h => absurd h (by decide), fun _ h => absurd h (by decide),
      fun _ _ => hY.right (by decide) (by decide), fun _ _ => hc, fun _ g => ⟨?_, ?_⟩⟩⟩
    · rw [e6, hv 1 rfl]; funext x
      exact block_eq A 0 (by decide) _ _ X1 X2 _ (valid_eq 0 (by decide))
        (delta_eq A 0 _ _ _ _ _ _ (fun g => (ld_colIn (F := Ideal) (k0_pay15 Y7) g).trans (hmin g))
          (fun g => (ld_colIn (F := Ideal) (k0_pay16 Y7 Y8) g).trans (hinv g)) (fun g j h => (hY.left (by decide) (by decide) g j h).1)
          (fun g j h => (hY.left (by decide) (by decide) g j h).2) hc.2 hc.1) hX.cls hX.obj
    · rw [e13]; exact (ld_colIn (F := Ideal) (k0_pay15 Y7) g).trans (hmin g)
    · rw [e13']; exact (ld_colIn (F := Ideal) (k0_pay16 Y7 Y8) g).trans (hinv g)
  · have e6 := h3 rfl
    have hc := hY.classes (by decide) (by decide)
    refine ⟨?_, ⟨fun h => absurd h (by decide), fun h => absurd h (by decide), fun _ h => absurd h (by decide),
      fun _ h => absurd h (by decide), fun _ h => absurd h (by decide), fun h => absurd h (by decide)⟩⟩
    rw [e6, hv 2 rfl]; funext x
    exact block_eq A 1 (by decide) _ _ X1 X2 _ (valid_eq 1 (by decide))
      (delta_eq A 1 _ _ _ _ _ _ (fun g => (hY.stats rfl g).1) (fun g => (hY.stats rfl g).2)
        (fun g j h => (hY.right (by decide) (by decide) g j h).1)
        (fun g j h => (hY.right (by decide) (by decide) g j h).2) hc.2 hc.1) hX.cls hX.obj

end Cert.Step

end
-- ==== Proof.Launch.lean ====
/-
  The launch of the idealized kernel: the blocks fetched, what every point finds and leaves, and the whole run. It ends with
  the result at `acc 3` of the argument arrays, and the arguments and every counter as they were.
-/
module

public import proofs.«01_k».proof.Proof.Step
public import Idealize.ShloMosaic.Lib.Pipeline.Frame
public import Idealize.ShloMosaic.Lib.Pipeline.ValueKit

@[expose] public section

set_option maxRecDepth 16384

noncomputable section

namespace Cert.Launch

open Cert.KernelIdeal Cert.KernelIdeal.Gen Cert.IdealBody Cert.Spec Cert.Step
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat Window BodyObligationLoose)

local notation "𝕄" => MT nD τ sig Unit (Elt Ideal) ℕ (UR sig nD τ) ℕ

variable (m : (ℓ : Loc nD τ sig) → Buf (Elt Ideal) ℓ) (ρ : Dev nD → PrngReg)

/-! ## The arrays and their blocks -/

/-- The argument arrays of a memory, at coordinates. -/
def args (c : Dev nD) : Args where
  cls p k := m ((c : Thread nD τ).loc main_arg0) (ix2 p k)
  obj p := m ((c : Thread nD τ).loc main_arg1) (ix2 p 0)
  lab g := m ((c : Thread nD τ).loc main_arg2) (ix1 g)
  io p g := m ((c : Thread nD τ).loc main_arg3) (ix2 p g)
  mask p g := m ((c : Thread nD τ).loc main_arg5) (ix2 p g)

/-- What the region finds in the five arrays it stages: the arguments, transposed, the mask as bytes, the labels as a row. -/
theorem V_v0 (c : Dev nD) : V m c main_v0 = transpose S80x20000 [1, 0] (m ((c : Thread nD τ).loc main_arg0)) transposes_S20000x80_S80x20000_1_0 := rfl
theorem V_v1 (c : Dev nD) : V m c main_v1 = transpose S1x20000 [1, 0] (m ((c : Thread nD τ).loc main_arg1)) transposes_S20000x1_S1x20000_1_0 := rfl
theorem V_v2 (c : Dev nD) : V m c main_v2 = transpose S50x20000 [1, 0] (m ((c : Thread nD τ).loc main_arg3)) transposes_S20000x50_S50x20000_1_0 := rfl
theorem V_v4 (c : Dev nD) : V m c main_v4
    = extui 8 (transpose S50x20000 [1, 0] (m ((c : Thread nD τ).loc main_arg5)) transposes_S20000x50_S50x20000_1_0) natLt_1_8 := rfl
theorem V_v5 (c : Dev nD) : V m c main_v5 = shapeCast S1x50 (m ((c : Thread nD τ).loc main_arg2)) shapeCasts_S50_S1x50 := rfl

/-- A fetched buffer read at an index of the part that the transfer moved: the array at that index of the block. -/
theorem fetched_at (w : Window sig grid0) (t : Fin cfg0.N) (d) (X : w.arr.view.ty.Contents (Elt Ideal)) (j : w.block.Idx) (i : w.shape.Idx)
    (hx : ∀ a, (j a).val < w.xsize (grid0.coords t) a)
    (he : ∀ a, w.kind.off (w.index t a) (w.size a) + (j a).val = (i a).val) :
    w.fill (grid0.coords t) d ((w.blk t).view.read (Elt Ideal) X) j = w.arr.view.read (Elt Ideal) X i := by
  unfold Window.fill
  rw [dif_pos ((w.moved_iff _ j).mpr hx)]
  show w.arr.view.read (Elt Ideal) X ((w.rect t).emb _) = _
  refine congrArg _ (funext fun a => Fin.ext ?_)
  rw [Rect.emb_apply, ← he a]
  show w.kind.off (w.index t a) (w.size a) + 1 * (j a).val = _
  rw [Nat.one_mul]

/-- The extents a transfer moves and the block indices, of the four windows whose last block overhangs its array. -/
theorem extents (t : Fin cfg0.N) :
    (win0_0.xsize (grid0.coords t) 0 = 80 ∧ win0_0.xsize (grid0.coords t) 1 = min 10240 (20000 - t.val / 3 * 10240)
      ∧ win0_0.index t 0 = 0 ∧ win0_0.index t 1 = t.val / 3)
    ∧ (win0_1.xsize (grid0.coords t) 0 = 1 ∧ win0_1.xsize (grid0.coords t) 1 = min 10240 (20000 - t.val / 3 * 10240)
      ∧ win0_1.index t 0 = 0 ∧ win0_1.index t 1 = t.val / 3)
    ∧ (win0_2.xsize (grid0.coords t) 0 = 50 ∧ win0_2.xsize (grid0.coords t) 1 = min 10240 (20000 - min t.val 1 * 10240)
      ∧ win0_2.index t 0 = 0 ∧ win0_2.index t 1 = min t.val 1)
    ∧ (win0_3.xsize (grid0.coords t) 0 = 50 ∧ win0_3.xsize (grid0.coords t) 1 = min 10240 (20000 - min t.val 1 * 10240)
      ∧ win0_3.index t 0 = 0 ∧ win0_3.index t 1 = min t.val 1) := by
  rcases fin_N0 t with rfl | rfl | rfl | rfl <;> decide

/-- Both coordinates of a two-axis statement at once. -/
theorem two_axes {P : Fin 2 → Prop} (h0 : P 0) (h1 : P 1) (a : Fin 2) : P a := by fin_cases a <;> assumption

/-- The input buffers at a point hold their blocks on the columns inside the arrays. -/
theorem fetched (c : Dev nD) (t : Fin cfg0.N) (d0 d1 d2 d3) :
    Fetched (args m c) (t.val / 3) (min t.val 1) (win0_0.fill (grid0.coords t) d0 (iblk m c 0 t)) (win0_1.fill (grid0.coords t) d1 (iblk m c 1 t))
      (win0_2.fill (grid0.coords t) d2 (iblk m c 2 t)) (win0_3.fill (grid0.coords t) d3 (iblk m c 3 t)) (iblk m c 4 t) := by
  obtain ⟨⟨a0, a1, a2, a3⟩, ⟨b0, b1, b2, b3⟩, ⟨e0, e1, e2, e3⟩, ⟨f0, f1, f2, f3⟩⟩ := extents t
  refine ⟨fun k j h => ?_, fun j h => ?_, fun g j h => ?_, fun g j h => ?_, fun g => ?_⟩
  · refine (fetched_at win0_0 t d0 (V m c main_v0) (ix2 k j) (ix2 k (pos (t.val / 3) j h))
      (two_axes (k.isLt.trans_eq a0.symm) ((lt_min j.isLt (by omega)).trans_eq a1.symm)) (two_axes ?_ ?_)).trans ?_
    · show win0_0.index t 0 * 80 + k.val = k.val; rw [a2]; omega
    · show win0_0.index t 1 * 10240 + j.val = _; rw [a3]; rfl
    · show V m c main_v0 (ix2 k (pos (t.val / 3) j h)) = _
      rw [V_v0]; pointwise; rfl
  · refine (fetched_at win0_1 t d1 (V m c main_v1) (ix2 0 j) (ix2 0 (pos (t.val / 3) j h))
      (two_axes (Nat.one_pos.trans_eq b0.symm) ((lt_min j.isLt (by omega)).trans_eq b1.symm)) (two_axes ?_ ?_)).trans ?_
    · show win0_1.index t 0 * 1 + 0 = 0; rw [b2]
    · show win0_1.index t 1 * 10240 + j.val = _; rw [b3]; rfl
    · show V m c main_v1 (ix2 0 (pos (t.val / 3) j h)) = _
      rw [V_v1]; pointwise; rfl
  · refine (fetched_at win0_2 t d2 (V m c main_v2) (ix2 g j) (ix2 g (pos (min t.val 1) j h))
      (two_axes (g.isLt.trans_eq e0.symm) ((lt_min j.isLt (by omega)).trans_eq e1.symm)) (two_axes ?_ ?_)).trans ?_
    · show win0_2.index t 0 * 50 + g.val = g.val; rw [e2]; omega
    · show win0_2.index t 1 * 10240 + j.val = _; rw [e3]; rfl
    · show V m c main_v2 (ix2 g (pos (min t.val 1) j h)) = _
      rw [V_v2]; pointwise; rfl
  · rw [show win0_3.fill (grid0.coords t) d3 (iblk m c 3 t) (ix2 g j) = V m c main_v4 (ix2 g (pos (min t.val 1) j h)) from
      fetched_at win0_3 t d3 (V m c main_v4) (ix2 g j) (ix2 g (pos (min t.val 1) j h))
        (two_axes (g.isLt.trans_eq f0.symm) ((lt_min j.isLt (by omega)).trans_eq f1.symm))
        (two_axes (by show win0_3.index t 0 * 50 + g.val = g.val; rw [f2]; omega)
          (by show win0_3.index t 1 * 10240 + j.val = _; rw [f3]; rfl)), V_v4]
    pointwise
    show _ = m ((c : Thread nD τ).loc main_arg5) (ix2 (pos (min t.val 1) j h) g)
    exact (by decide : ∀ x : BitVec 1, IntOp.cmpi .ne (x.setWidth 8) 0#8 = x) _
  · refine (fetched_at win0_4 t (iblk m c 4 t) (V m c main_v5) (ix2 0 g) (ix2 0 g) (two_axes Nat.one_pos g.isLt) (two_axes ?_ ?_)).trans ?_
    · show 0 * 1 + 0 = 0; rfl
    · show 0 * 50 + g.val = g.val; omega
    · show V m c main_v5 (ix2 0 g) = _
      rw [V_v5]; pointwise; rfl

/-! ## The proof data -/

/-- The seven scratch buffers, at contents of which `P` holds. -/
def scratch (c : Dev nD) (P : (S50x10240.Idx → Elt Ideal .f32) → (S50x10240.Idx → Elt Ideal .f32) → (S50x20480.Idx → Elt Ideal .f32)
    → (S50x20480.Idx → Elt Ideal .f32) → (S80x50.Idx → Elt Ideal .f32) → (S50x50.Idx → Elt Ideal .f32) → (S50x256.Idx → Elt Ideal .f32) → Prop) : sProp 𝕄 :=
  iprop(∃ Y7 Y8 Y9 Y10 Y11 Y12 Y13, ⌜P Y7 Y8 Y9 Y10 Y11 Y12 Y13⌝
    ∗ owns (c : Thread nD τ) (Memref.whole cc0_scratch0) fullShare Y7 ∗ owns (c : Thread nD τ) (Memref.whole cc0_scratch1) fullShare Y8
    ∗ owns (c : Thread nD τ) (Memref.whole cc0_scratch2) fullShare Y9 ∗ owns (c : Thread nD τ) (Memref.whole cc0_scratch3) fullShare Y10
    ∗ owns (c : Thread nD τ) (Memref.whole cc0_scratch4) fullShare Y11 ∗ owns (c : Thread nD τ) (Memref.whole cc0_scratch5) fullShare Y12
    ∗ owns (c : Thread nD τ) (Memref.whole cc0_scratch6) fullShare Y13)

/-- The proof data: each array as the region finds it; after a point each input buffer keeps its block (past the array's
    end, anything) and the output holds `acc`; between points the scratch satisfies `Inv`; full shares; nothing owed. -/
def dats (_ : Fin 1) (c : Dev nD) : Dat τ (Elt Ideal) Unit ℕ (UR sig nD τ) ℕ cfg0 c where
  A w := V m c (Pipeline.arrRef spec0 w)
  after w t := match w with
    | ⟨5, _⟩ => fun _ => acc (args m c) t.val
    | ⟨0, h⟩ => (cfg0.win ⟨0, h⟩).fill (cfg0.grid.coords t) (Pipeline.Dat.unnamed (cfg := cfg0) ⟨0, h⟩ t) (iblk m c ⟨0, h⟩ t)
    | ⟨1, h⟩ => (cfg0.win ⟨1, h⟩).fill (cfg0.grid.coords t) (Pipeline.Dat.unnamed (cfg := cfg0) ⟨1, h⟩ t) (iblk m c ⟨1, h⟩ t)
    | ⟨2, h⟩ => (cfg0.win ⟨2, h⟩).fill (cfg0.grid.coords t) (Pipeline.Dat.unnamed (cfg := cfg0) ⟨2, h⟩ t) (iblk m c ⟨2, h⟩ t)
    | ⟨3, h⟩ => (cfg0.win ⟨3, h⟩).fill (cfg0.grid.coords t) (Pipeline.Dat.unnamed (cfg := cfg0) ⟨3, h⟩ t) (iblk m c ⟨3, h⟩ t)
    | ⟨4, h⟩ => iblk m c ⟨4, h⟩ t
  Φ n := iprop(scratch c (Inv (args m c) n.val) ∗ ∃ r, prngReg c r)
  q _ := fullShare
  owed _ := 0

theorem A_eq (c : Dev nD) (w : Fin cfg0.W) : (dats m 0 c).A w = V m c (Pipeline.arrRef spec0 w) := by dsimp only [dats]

/-- What an input buffer is left at, cut to the part inside the array, is its block. -/
theorem after_cut (c : Dev nD) (w : Fin cfg0.W) (hw : w ≠ 5) (t : Fin cfg0.N) :
    (cfg0.win w).cut (cfg0.grid.coords t) ((dats m 0 c).after w t) = (dats m 0 c).blockOf w t := by
  fin_cases w
  · exact win0_0.cut_fill _ _ _
  · exact win0_1.cut_fill _ _ _
  · exact win0_2.cut_fill _ _ _
  · exact win0_3.cut_fill _ _ _
  · rfl
  · exact absurd rfl hw

/-- An input buffer holds its block at every point, fetched there or not, and past the array's end anything. -/
theorem before_in (c : Dev nD) (w : Fin cfg0.W) (h5 : w ≠ 5) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t')) (t : Fin cfg0.N) (d) :
    (dats m 0 c).before w t d = (cfg0.win w).fill (cfg0.grid.coords t) d (iblk m c w t) :=
  (dats m 0 c).before_in_eq_fetched w hw hlive hclip (after_cut m c w h5) t d

theorem before_0 (c : Dev nD) (t : Fin cfg0.N) (d) : (dats m 0 c).before 0 t d = win0_0.fill (grid0.coords t) d (iblk m c 0 t) :=
  before_in m c 0 (by decide) rfl (fun _ => rfl) (fun _ _ h => congrArg (fun ix a => Pipeline.Clip.of (ix a) (S80x10240.size a) (S80x20000.size a)) h) t d
theorem before_1 (c : Dev nD) (t : Fin cfg0.N) (d) : (dats m 0 c).before 1 t d = win0_1.fill (grid0.coords t) d (iblk m c 1 t) :=
  before_in m c 1 (by decide) rfl (fun _ => rfl) (fun _ _ h => congrArg (fun ix a => Pipeline.Clip.of (ix a) (S1x10240.size a) (S1x20000.size a)) h) t d
theorem before_2 (c : Dev nD) (t : Fin cfg0.N) (d) : (dats m 0 c).before 2 t d = win0_2.fill (grid0.coords t) d (iblk m c 2 t) :=
  before_in m c 2 (by decide) rfl (fun _ => rfl) (fun _ _ h => congrArg (fun ix a => Pipeline.Clip.of (ix a) (S50x10240.size a) (S50x20000.size a)) h) t d
theorem before_3 (c : Dev nD) (t : Fin cfg0.N) (d) : (dats m 0 c).before 3 t d = win0_3.fill (grid0.coords t) d (iblk m c 3 t) :=
  before_in m c 3 (by decide) rfl (fun _ => rfl) (fun _ _ h => congrArg (fun ix a => Pipeline.Clip.of (ix a) (S50x10240.size a) (S50x20000.size a)) h) t d
theorem before_4 (c : Dev nD) (t : Fin cfg0.N) (d) : (dats m 0 c).before 4 t d = iblk m c 4 t :=
  before_in m c 4 (by decide) rfl (fun _ => rfl) (fun _ _ _ => rfl) t d

/-- At a point that follows one which keeps the output's block and stores to it, the output is at what that one left. -/
theorem before_5_stored (c : Dev nD) (t : Fin cfg0.N) (ht : t.val ≠ 0) (hf : (cfg0.win 5).flush ⟨t.val - 1, (Nat.sub_le _ _).trans_lt t.isLt⟩ = false)
    (hi : cfg0.idle 5 (cfg0.grid.coords ⟨t.val - 1, (Nat.sub_le _ _).trans_lt t.isLt⟩) = false) (d) : (dats m 0 c).before 5 t d = fun _ => acc (args m c) (t.val - 1) := by
  unfold Dat.before
  rw [if_neg (by rcases fin_N0 t with rfl | rfl | rfl | rfl <;> decide), if_neg ht]
  dsimp only
  rw [hf, if_neg (by decide), show idle0 5 (grid0.coords ⟨t.val - 1, (Nat.sub_le _ _).trans_lt t.isLt⟩) = false from hi]
  rfl

/-- The output is at one word, and after the first point at what the point before left: point 1 leaves it as it found it. -/
theorem before_5 (c : Dev nD) (t : Fin cfg0.N) (d) :
    ∃ v : EReal, (dats m 0 c).before 5 t d = (fun _ => v) ∧ ∀ n, t.val = n + 1 → v = acc (args m c) n := by
  rcases fin_N0 t with rfl | rfl | rfl | rfl
  · exact ⟨d (ix2 0 0), funext fun x => by
      rw [show x = ix2 0 0 from funext (two_axes (Subsingleton.elim (α := Fin 1) _ _) (Subsingleton.elim (α := Fin 1) _ _))]
      unfold Dat.before; rfl, fun n h => absurd h (by show ¬0 = n + 1; omega)⟩
  · exact ⟨acc (args m c) 0, before_5_stored m c t0_1 (by decide) (by decide) (by decide) d, fun n h => by cases h; rfl⟩
  · refine ⟨acc (args m c) 0, ?_, fun n h => by cases h; rfl⟩
    refine ((?_ : (dats m 0 c).before 5 t0_2 d = _).trans (Dat.found_eq_before (dats m 0 c) 5 t0_1 d)).trans
      (before_5_stored m c t0_1 (by decide) (by decide) (by decide) d)
    unfold Dat.before
    rw [if_neg (by decide), if_neg (by decide)]
    dsimp only
    rw [if_neg (by decide)]
    rfl
  · exact ⟨acc (args m c) 2, before_5_stored m c t0_3 (by decide) (by decide) (by decide) d, fun n h => by cases h; rfl⟩

/-! ## The body's obligation -/

/-- What the region hands over: the scratch at anything, which satisfies `Inv` before the first point. -/
theorem scratch_in (c : Dev nD) : (Pipeline.ΦA spec0 c : sProp 𝕄) ⊢ iprop(scratch c (Inv (args m c) 0) ∗ ∃ r, prngReg c r) := by
  unfold Pipeline.ΦA scratch; rw [scopedRest0_eq]; simp only [owns_whole]
  iintro ⟨⟨⟨%f7, H7⟩, ⟨%f8, H8⟩, ⟨%f9, H9⟩, ⟨%f10, H10⟩, ⟨%f11, H11⟩, ⟨%f12, H12⟩, ⟨%f13, H13⟩⟩, Hg⟩
  isplitr [Hg]; swap; · iexact Hg
  iexists f7, f8, f9, f10, f11, f12, f13
  isplitr
  · ipureintro
    exact ⟨fun h => absurd h (by decide), fun h => absurd h (by decide), fun h => absurd h (by decide), fun h => absurd h (by decide),
      fun h => absurd h (by decide), fun h => absurd h (by decide)⟩
  isplitl [H7]; · iexact H7
  isplitl [H8]; · iexact H8
  isplitl [H9]; · iexact H9
  isplitl [H10]; · iexact H10
  isplitl [H11]; · iexact H11
  isplitl [H12]; · iexact H12
  iexact H13

/-- What the region is handed back: the scratch at anything. -/
theorem scratch_out (c : Dev nD) (P) : iprop(scratch c P ∗ ∃ r, prngReg c r) ⊢ (Pipeline.ΦA spec0 c : sProp 𝕄) := by
  unfold Pipeline.ΦA scratch; rw [scopedRest0_eq]; simp only [owns_whole]
  iintro ⟨⟨%f7, %f8, %f9, %f10, %f11, %f12, %f13, -, H7, H8, H9, H10, H11, H12, H13⟩, Hg⟩
  isplitr [Hg]; swap; · iexact Hg
  isplitl [H7]; · iexists f7; iexact H7
  isplitl [H8]; · iexists f8; iexact H8
  isplitl [H9]; · iexists f9; iexact H9
  isplitl [H10]; · iexists f10; iexact H10
  isplitl [H11]; · iexists f11; iexact H11
  isplitl [H12]; · iexists f12; iexact H12
  iexists f13; iexact H13

/-- The body table's row at a point is the body. -/
theorem defs₀_row (t : Fin cfg0.N) : defs₀ (F := Ideal) .tc cfg0.body (cfg0.bodyArgs t (cfg0.slots t)) = bodyAt0 t := by
  unfold defs₀; rw [Defs.onTc_tc]

/-- The body at a point takes what it finds to what it leaves. -/
theorem body_obligation (c : Dev nD) :
    BodyObligationLoose (dats m 0 c) (defs₀ (F := Ideal)) Variants.none () Set.univ := fun t => by
  rw [bigSep_W0, bigSep_W0, defs₀_row]
  rw [show (dats m 0 c).Φ t.succ = iprop(scratch c (Inv (args m c) (t.val + 1)) ∗ ∃ r, prngReg c r) from rfl,
    show (dats m 0 c).owesAt () t.succ = (dats m 0 c).owesAt () t.castSucc from rfl,
    show (dats m 0 c).Φ t.castSucc = iprop(scratch c (Inv (args m c) t.val) ∗ ∃ r, prngReg c r) from rfl]
  iintro ⟨⟨HS, Hg⟩, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4]
  obtain ⟨v, hv5, hv⟩ := before_5 m c t d5
  rw [hv5]
  unfold scratch
  icases HS with ⟨%Y7, %Y8, %Y9, %Y10, %Y11, %Y12, %Y13, %hY, HS0, HS1, HS2, HS3, HS4, HS5, HS6⟩
  have hrun := body_run (F := Ideal) c (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t)) (iblk m c 4 t)
    t v Y7 Y8 Y9 Y10 Y11 Y12 Y13
  unfold ins state at hrun
  iapply (hrun _)
  isplitl [H0 H1 H2 H3 H4]
  · isplitl [H0]; · iexact H0
    isplitl [H1]; · iexact H1
    isplitl [H2]; · iexact H2
    isplitl [H3]; · iexact H3
    iexact H4
  isplitl [H5 HS0 HS1 HS2 HS3 HS4 HS5 HS6]
  · isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    iexact HS6
  iintro ⟨⟨H0, H1, H2, H3, H4⟩, %Z6, %Z7, %Z8, %Z9, %Z10, %Z11, %Z12, %Z13, %hZ, H5, HS⟩
  obtain ⟨rfl, hInv⟩ := step (args m c) t (fetched m c t d0 d1 d2 d3) hv hY hZ
  isplitl [HS Hg]
  · isplitl [HS]
    · iexists Z7, Z8, Z9, Z10, Z11, Z12, Z13
      isplitr; · ipureintro; exact hInv
      iexact HS
    iexact Hg
  isplitl [Ho]; · iexact Ho
  isplitl [H0]
  · iexists d0
    change _ ⊢ owns (c : Thread nD τ) (st0_0 t) fullShare (win0_0.fill (grid0.coords t) d0 ((cfg0.win 0).cut (cfg0.grid.coords t) ((dats m 0 c).after 0 t)))
    rw [after_cut m c 0 (by decide)]; exact .rfl
  isplitl [H1]
  · iexists d1
    change _ ⊢ owns (c : Thread nD τ) (st0_1 t) fullShare (win0_1.fill (grid0.coords t) d1 ((cfg0.win 1).cut (cfg0.grid.coords t) ((dats m 0 c).after 1 t)))
    rw [after_cut m c 1 (by decide)]; exact .rfl
  isplitl [H2]
  · iexists d2
    change _ ⊢ owns (c : Thread nD τ) (st0_2 t) fullShare (win0_2.fill (grid0.coords t) d2 ((cfg0.win 2).cut (cfg0.grid.coords t) ((dats m 0 c).after 2 t)))
    rw [after_cut m c 2 (by decide)]; exact .rfl
  isplitl [H3]
  · iexists d3
    change _ ⊢ owns (c : Thread nD τ) (st0_3 t) fullShare (win0_3.fill (grid0.coords t) d3 ((cfg0.win 3).cut (cfg0.grid.coords t) ((dats m 0 c).after 3 t)))
    rw [after_cut m c 3 (by decide)]; exact .rfl
  isplitl [H4]; · iexact H4
  clear hrun hv hY hZ hInv
  rcases fin_N0 t with rfl | rfl | rfl | rfl
  · change _ ⊢ owns (c : Thread nD τ) (st0_5 t0_0) fullShare ((dats m 0 c).after 5 t0_0)
    exact .rfl
  · change _ ⊢ iprop(∃ d, owns (c : Thread nD τ) (st0_5 t0_1) fullShare ((dats m 0 c).before 5 t0_1 d))
    iintro H5
    iexists ((dats m 0 c).after 5 t0_1)
    rw [before_5_stored m c t0_1 (by decide) (by decide) (by decide)]
    iexact H5
  · change _ ⊢ owns (c : Thread nD τ) (st0_5 t0_2) fullShare ((dats m 0 c).after 5 t0_2)
    exact .rfl
  · change _ ⊢ owns (c : Thread nD τ) (st0_5 t0_3) fullShare ((dats m 0 c).after 5 t0_3)
    exact .rfl

/-! ## The run -/

set_option backward.isDefEq.respectTransparency.types false in
/-- The run ends with every array the region stages, and every buffer of the host lines after it, at what the proof data
    say, and every counter at zero. -/
theorem run_main :
    θ_run defs (onTc (τ := τ) (main (F := Ideal))) (s₀ m ρ)
      (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => scratch_in m c) (hout := fun c => scratch_out c _)

/-- The result's array, written whole by the last point. -/
theorem out_eq (c : Dev nD) : (dats m 0 c).arrAt 5 cfg0.N = fun _ => acc (args m c) 3 :=
  (dats m 0 c).arrAt_eq_of_after_last 5 t0_3 (by decide +kernel) _ fun j => by
    blk_simp
    rfl

/-- The kernel's result: the one entry of the result's array, taken out by the host's reshape. -/
theorem tail_eq (c : Dev nD) : Pipeline.afterTail₀ cfgs (dats m) 0 (V0 m) [hostOps1] c main_v7 = fun _ => acc (args m c) 3 := by
  have h : Pipeline.withArrays spec0 c (V0 m c) (fun w => (dats m 0 c).arrAt w cfg0.N) main_v6 = fun _ => acc (args m c) 3 :=
    (Pipeline.withArrays_arr spec0 (by decide) c (V0 m c) _ 5).trans (out_eq m c)
  unfold Pipeline.afterTail₀
  simp only [hostOps1, List.flatten_cons, List.flatten_nil, List.append_nil, StableHlo.after_cons, StableHlo.after_nil]
  refine (StableHlo.reshape_result main_v6 main_v7 _ _ _ _ _).trans ?_
  funext i
  show Idealize.ShloMosaic.shapeCast main_v7.ty.shape (Pipeline.withArrays spec0 c (V0 m c) (fun w => (dats m 0 c).arrAt w cfg0.N) main_v6) _ i = _
  rw [h]
  rfl

/-- The run: the result ends as what the last point accumulates, every argument array as launched, and every counter at zero. -/
theorem frame_run :
    θ_run defs (onTc (τ := τ) (main (F := Ideal))) ⟨m, fun _ => 0, ρ⟩ (fun r => (∀ c : Dev nD,
      r.2.mem ((c.tc : Thread nD τ).loc main_v7) = (fun _ => acc (args m c) 3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c =>
    ⟨((h.1 c).2 main_v7 (Pipeline.mem_restRefs_of _ (by decide) (by decide))).trans (tail_eq m c),
     ((h.1 c).2 main_arg0 (Pipeline.mem_restRefs_of _ (by decide) (by decide))).trans (W_main_arg0 m (dats m) c),
     ((h.1 c).2 main_arg1 (Pipeline.mem_restRefs_of _ (by decide) (by decide))).trans (W_main_arg1 m (dats m) c),
     ((h.1 c).2 main_arg2 (Pipeline.mem_restRefs_of _ (by decide) (by decide))).trans (W_main_arg2 m (dats m) c),
     ((h.1 c).2 main_arg3 (Pipeline.mem_restRefs_of _ (by decide) (by decide))).trans (W_main_arg3 m (dats m) c),
     ((h.1 c).2 main_arg4 (Pipeline.mem_restRefs_of _ (by decide) (by decide))).trans (W_main_arg4 m (dats m) c),
     ((h.1 c).2 main_arg5 (Pipeline.mem_restRefs_of _ (by decide) (by decide))).trans (W_main_arg5 m (dats m) c),
     ((h.1 c).2 main_arg6 (Pipeline.mem_restRefs_of _ (by decide) (by decide))).trans (W_main_arg6 m (dats m) c)⟩, h.2⟩) (run_main m ρ)

end Cert.Launch

end
-- ==== Proof.RefRead.lean ====
/-
  What the reference computes, read at coordinates: its normalised weights, the element each update of its scatter lands
  at, and its loss as one sum.
-/
module

public import proofs.«01_k».proof.Proof.Spec
public import proofs.«01_k».proof.Proof.Gen.ReferenceIdeal.Read
public import Idealize.ShloMosaic.Lib.Routing.OpsSet
public import Idealize.ShloMosaic.Lib.LaneScatter.Pure

@[expose] public section

set_option maxRecDepth 16384

noncomputable section

namespace Cert.RefRead

open Idealize.ShloMosaic Cert.ReferenceIdeal Cert.ReferenceIdeal.Gen Cert.ReferenceIdeal.Read Cert.Spec
open scoped BigOperators

/-! ## The last update of a scatter stands -/

/-- A scatter that sets, read at an element where the update at row-major position `n` lands and no later one does: that update. -/
theorem scatter_last {α : Type} {s si u : Shape} {w : ℕ} (d : ScatterDims s si u) (x : s.Idx → α) (idx : IVec si w) (upd : u.Idx → α) (ι : s.Idx)
    (n : Fin u.numel) (hn : d.resultIdx? (u.rowMajor.symm n) idx = some ι)
    (hl : ∀ n' : Fin u.numel, n < n' → d.resultIdx? (u.rowMajor.symm n') idx ≠ some ι) :
    Host.scatter d (fun _ b => b) x idx upd ι = upd (u.rowMajor.symm n) := by
  classical
  rw [Routing.scatter_at]
  let hit : ℕ → Prop := fun k => ∃ h : k < u.numel, d.resultIdx? (u.rowMajor.symm ⟨k, h⟩) idx = some ι
  let put : ℕ → α := fun k => if h : k < u.numel then upd (u.rowMajor.symm ⟨k, h⟩) else x ι
  have e : (List.finRange u.numel).foldl (fun a n => if d.resultIdx? (u.rowMajor.symm n) idx = some ι then upd (u.rowMajor.symm n) else a) (x ι)
      = (List.finRange u.numel).foldl (fun a (n : Fin u.numel) => if hit n.val then put n.val else a) (x ι) := by
    refine congrArg (fun f => (List.finRange u.numel).foldl f (x ι)) (funext fun a => funext fun n => ?_)
    have hp : put n.val = upd (u.rowMajor.symm n) := dif_pos n.isLt
    rw [hp]
    exact if_congr ⟨fun h => ⟨n.isLt, h⟩, fun ⟨_, h⟩ => h⟩ rfl rfl
  rw [e, Routing.foldl_finRange_lastHit, LaneScatter.lastHit_of_last put (x ι) (k := n.val) ⟨n.isLt, hn⟩ n.isLt]
  · exact dif_pos n.isLt
  · rintro j hj _ ⟨hlt, hh⟩
    exact hl ⟨j, hlt⟩ hj hh

/-- The row-major position of an entry of a vector is its coordinate. -/
theorem flat_symm (n : Fin S1000000.numel) (u : Fin 1000000) (h : n.val = u.val) : S1000000.rowMajor.symm n = ix1 u :=
  (S1000000.rowMajor.symm_apply_eq).2 (Fin.ext (by rw [Shape.rowMajor_val_one]; exact h))

/-- An update of this reference's scatter lands at row `p`, column `k` when its two words, read signed, are `p` and `k`. -/
theorem lands_iff (idx : IVec S1000000x2 32) (u : Fin 1000000) (p : Fin 20000) (k : Fin 80) :
    scatter_S20000x80_S1000000x2_S1000000_n_01_01_1.resultIdx? (ix1 u) idx = some (ix2 p k)
      ↔ (idx (ix2 u 0)).toInt = (p.val : ℤ) ∧ (idx (ix2 u 1)).toInt = (k.val : ℤ) := by
  have hw : ∀ a, scatter_S20000x80_S1000000x2_S1000000_n_01_01_1.window (ix1 u) a = 0 := fun a => by
    unfold ScatterDims.window
    exact dif_neg (by revert a; decide)
  have hs : ∀ a : Fin 2, scatter_S20000x80_S1000000x2_S1000000_n_01_01_1.start (ix1 u) idx a = (idx (ix2 u a)).toInt := fun a => by
    have hm : a ∈ scatter_S20000x80_S1000000x2_S1000000_n_01_01_1.scatterDimsToOperandDims := by revert a; decide
    refine (dif_pos hm).trans (congrArg (fun j => (idx j).toInt) (funext fun b => ?_))
    fin_cases a <;> fin_cases b <;> rfl
  rw [Routing.resultIdx?_eq_some]
  constructor
  · intro h
    have h0 := h 0
    have h1 := h 1
    rw [hw, hs] at h0 h1
    exact ⟨(add_zero _).symm.trans h0, (add_zero _).symm.trans h1⟩
  · rintro ⟨h0, h1⟩ a
    rw [hw, hs a]
    refine (add_zero _).trans ?_
    fin_cases a
    · exact h0
    · exact h1

/-! ## The reference's stages -/

variable (x0 : S20000x80.Idx → EReal) (x1 : S20000x1.Idx → EReal) (x2 : S50.Idx → BitVec 32) (x3 : S20000x50.Idx → EReal)
  (x4 : S20000x80.Idx → EReal) (x5 : S20000x50.Idx → BitVec 1) (x6 : S_.Idx → BitVec 32)

/-- The arrays the kernel and the reference share, at coordinates. -/
def arrays : Args where
  cls p k := x0 (ix2 p k)
  obj p := x1 (ix2 p 0)
  lab g := x2 (ix1 g)
  io p g := x3 (ix2 p g)
  mask p g := x5 (ix2 p g)

/-- The reference's weight of an overlap, -/
def weight (A : Args) (g : Fin 50) (p : Fin 20000) : EReal := Ideal.div 1 (max eps (1 - A.io p g))

/-- the least weight over the marked positions of a column, -/
def low_weight (A : Args) (g : Fin 50) : EReal :=
  Finset.univ.fold min ⊤ fun p => if A.mask p g = 1#1 then weight A g p else big

/-- the greatest, -/
def high_weight (A : Args) (g : Fin 50) : EReal :=
  Finset.univ.fold max ⊥ fun p => if A.mask p g = 1#1 then weight A g p else low

/-- and one minus the weight normalised by the two. -/
def cost (A : Args) (g : Fin 50) (p : Fin 20000) : EReal :=
  1 - Ideal.div (weight A g p - low_weight A g + eps) (high_weight A g - low_weight A g + eps)

theorem inf_bits : Ideal.ofBits .f32 0x7F800000#32 = ⊤ := by simp [Ideal.ofBits, Ideal.ieee]
theorem ninf_bits : Ideal.ofBits .f32 0xFF800000#32 = ⊥ := by simp [Ideal.ofBits, Ideal.ieee]

theorem v8_at (g : Fin 50) (p : Fin 20000) :
    val_main_v8 (F := Ideal) x3 (ix2 g p) = weight (arrays x0 x1 x2 x3 x5) g p := by
  unfold val_main_v8 val_main_v7 val_main_cst_1 val_main_v6 val_main_call0_v1 val_main_call0_v0 val_main_cst_0 val_main_v5 val_main_v4 val_main_cst val_main_v3
  pointwise
  rfl

theorem v10_at (g : Fin 50) :
    val_main_v10 (F := Ideal) x3 x5 (ix1 g) = low_weight (arrays x0 x1 x2 x3 x5) g := by
  unfold val_main_v10 val_main_cst_3 val_main_v9 val_main_v2 val_main_call1_v1 val_main_call1_v0 val_main_cst_2
  have h := v8_at x0 x1 x2 x3 x5 g
  generalize val_main_v8 (F := Ideal) x3 = w at h
  pointwise
  simp only [inf_bits, h]
  rfl

theorem v13_at (g : Fin 50) :
    val_main_v13 (F := Ideal) x3 x5 (ix1 g) = high_weight (arrays x0 x1 x2 x3 x5) g := by
  unfold val_main_v13 val_main_cst_5 val_main_v12 val_main_v2 val_main_call2_v1 val_main_call2_v0 val_main_cst_4
  have h := v8_at x0 x1 x2 x3 x5 g
  generalize val_main_v8 (F := Ideal) x3 = w at h
  pointwise
  simp only [ninf_bits, h]
  rfl

theorem v34_at (g : Fin 50) (p : Fin 20000) :
    val_main_v34 (F := Ideal) x3 x5 (ix2 g p) = cost (arrays x0 x1 x2 x3 x5) g p := by
  unfold val_main_v34 val_main_v33 val_main_cst_9 val_main_v23 val_main_v22 val_main_v21 val_main_v20 val_main_cst_7 val_main_v19 val_main_v18 val_main_v17 val_main_cst_6 val_main_v16 val_main_v15 val_main_v14 val_main_v11
  have h := v8_at x0 x1 x2 x3 x5 g p
  have hl := v10_at x0 x1 x2 x3 x5 g
  have hh := v13_at x0 x1 x2 x3 x5 g
  generalize val_main_v8 (F := Ideal) x3 = w at h
  generalize val_main_v10 (F := Ideal) x3 x5 = lo at hl
  generalize val_main_v13 (F := Ideal) x3 x5 = hi at hh
  pointwise
  rw [h, hl, hh]
  rfl

/-! ## Where the updates land -/

/-- The row word of update `u`: the position where the column is marked, one past the last row elsewhere. -/
theorem v31_at (u : Fin 1000000) :
    val_main_v31 (F := Ideal) x5 (ix1 u)
      = if x5 (ix2 (⟨u.val % 20000, Nat.mod_lt _ (by decide)⟩ : Fin 20000) (⟨u.val / 20000, by omega⟩ : Fin 50)) = 1#1 then BitVec.ofNat 32 (u.val % 20000) else 20000#32 := by
  rw [val_main_v31_apply]
  unfold val_main_v27 val_main_v26 val_main_v25 val_main_v24 val_main_call3_v1 val_main_call3_v0 val_main_c val_main_v2
  pointwise
  rfl

/-- The class word of update `u`: its column's label. -/
theorem v32_at (u : Fin 1000000) :
    val_main_v32 (F := Ideal) x2 (ix1 u) = x2 (ix1 (⟨u.val / 20000, by omega⟩ : Fin 50)) := by
  rw [val_main_v32_apply]
  unfold val_main_v29 val_main_v28
  pointwise

theorem v48_row (u : Fin 1000000) :
    val_main_v48 (F := Ideal) x2 x5 (ix2 u 0) = val_main_v31 (F := Ideal) x5 (ix1 u) := by
  unfold val_main_v48 val_main_v46 val_main_v40 val_main_v39 val_main_v38 val_main_c_11 val_main_v37 val_main_v36 val_main_c_10
  have h := v31_at x5 u
  generalize val_main_v47 (F := Ideal) x2 = w'
  generalize val_main_v31 (F := Ideal) x5 = w at h
  pointwise
  refine Routing.wrap_of_lt _ _ ?_
  rw [h]
  split
  · rw [BitVec.toNat_ofNat]; omega
  · decide

theorem v48_class (hx : ∀ g, (x2 g).toNat < 2 ^ 31) (u : Fin 1000000) :
    val_main_v48 (F := Ideal) x2 x5 (ix2 u 1) = val_main_v32 (F := Ideal) x2 (ix1 u) := by
  unfold val_main_v48 val_main_v47 val_main_v45 val_main_v44 val_main_v43 val_main_c_13 val_main_v42 val_main_v41 val_main_c_12
  have h := v32_at x2 u
  generalize val_main_v46 (F := Ideal) x5 = w'
  generalize val_main_v32 (F := Ideal) x2 = w at h
  pointwise
  refine Routing.wrap_of_lt _ _ ?_
  rw [h]
  exact hx _

/-- Update `u`, of column `u / 20000` at position `u % 20000`, lands at row `p`, class `k` when that position is `p`, the column
    is marked there and `k` is its label. -/
theorem update_lands (hx : ∀ g, (x2 g).toNat < 2 ^ 31) (u : Fin 1000000) (p : Fin 20000) (k : Fin 80) (g : Fin 50) (hg : g.val = u.val / 20000) :
    scatter_S20000x80_S1000000x2_S1000000_n_01_01_1.resultIdx? (ix1 u) (val_main_v48 (F := Ideal) x2 x5) = some (ix2 p k)
      ↔ u.val % 20000 = p.val ∧ x5 (ix2 p g) = 1#1 ∧ BitVec.ofNat 32 k.val = x2 (ix1 g) := by
  have eg : (⟨u.val / 20000, by omega⟩ : Fin 50) = g := Fin.ext hg.symm
  have hk : (x2 (ix1 g)).toInt = (k.val : ℤ) ↔ BitVec.ofNat 32 k.val = x2 (ix1 g) := by
    have hxg := hx (ix1 g)
    have hkl := k.isLt
    rw [BitVec.toInt_eq_toNat_of_lt (by omega), ← BitVec.toNat_inj, BitVec.toNat_ofNat]
    omega
  rw [lands_iff, v48_row, v48_class x2 x5 hx, v31_at, v32_at, eg, hk]
  have hpl := p.isLt
  have hu := Nat.mod_lt u.val (by decide : 0 < 20000)
  by_cases ep : u.val % 20000 = p.val
  · have e2 : (⟨u.val % 20000, hu⟩ : Fin 20000) = p := Fin.ext ep
    rw [e2]
    split
    · next hm =>
      rw [BitVec.toInt_eq_toNat_of_lt (by rw [BitVec.toNat_ofNat]; omega), BitVec.toNat_ofNat]
      constructor
      · rintro ⟨_, h⟩; exact ⟨ep, hm, h⟩
      · rintro ⟨_, _, h⟩; exact ⟨by omega, h⟩
    · next hm =>
      constructor
      · rintro ⟨h, _⟩
        have : (20000#32).toInt = 20000 := by decide
        omega
      · rintro ⟨_, h, _⟩; exact absurd h hm
  · constructor
    · rintro ⟨h, _⟩
      split at h
      · rw [BitVec.toInt_eq_toNat_of_lt (by rw [BitVec.toNat_ofNat]; omega), BitVec.toNat_ofNat] at h
        omega
      · have : (20000#32).toInt = 20000 := by decide
        omega
    · rintro ⟨h, _⟩; exact absurd h ep

/-- The weights' array at a position and class that a column marks, no later column of the class marking it too: that column's cost. -/
theorem v49_hit (hx : ∀ g, (x2 g).toNat < 2 ^ 31) (p : Fin 20000) (k : Fin 80) (g : Fin 50) (hm : x5 (ix2 p g) = 1#1) (hk : BitVec.ofNat 32 k.val = x2 (ix1 g))
    (hl : ∀ g' : Fin 50, g < g' → BitVec.ofNat 32 k.val = x2 (ix1 g') → x5 (ix2 p g') ≠ 1#1) :
    val_main_v49 (F := Ideal) x2 x3 x5 (ix2 p k) = cost (arrays x0 x1 x2 x3 x5) g p := by
  have hg := g.isLt
  have hp := p.isLt
  have hN : S1000000.numel = 1000000 := Shape.numel_rank1 _
  let u : Fin 1000000 := ⟨g.val * 20000 + p.val, by omega⟩
  have hu := flat_symm (u.cast hN.symm) u rfl
  unfold val_main_v49
  rw [scatter_last (n := u.cast hN.symm), hu, val_main_v35_apply]
  · refine Eq.trans (congrArg _ (funext fun a => Fin.ext ?_)) (v34_at x0 x1 x2 x3 x5 g p)
    fin_cases a
    · show (g.val * 20000 + p.val) / 20000 = g.val
      omega
    · show (g.val * 20000 + p.val) % 20000 = p.val
      omega
  · rw [hu, update_lands x2 x5 hx u p k g (by show g.val = (g.val * 20000 + p.val) / 20000; omega)]
    exact ⟨by show (g.val * 20000 + p.val) % 20000 = p.val; omega, hm, hk⟩
  · intro n' hlt h
    have hn' : n'.val < 1000000 := hN ▸ n'.isLt
    have hlt' : g.val * 20000 + p.val < n'.val := hlt
    let g' : Fin 50 := ⟨n'.val / 20000, by omega⟩
    rw [flat_symm n' ⟨n'.val, hn'⟩ rfl] at h
    obtain ⟨e, h1, h2⟩ := (update_lands x2 x5 hx _ p k g' rfl).1 h
    have e' : n'.val % 20000 = p.val := e
    exact hl g' (by show g.val < n'.val / 20000; omega) h2 h1

/-- The weights' array at a position and class that no column marks: one. -/
theorem v49_miss (hx : ∀ g, (x2 g).toNat < 2 ^ 31) (p : Fin 20000) (k : Fin 80)
    (hl : ∀ g : Fin 50, BitVec.ofNat 32 k.val = x2 (ix1 g) → x5 (ix2 p g) ≠ 1#1) :
    val_main_v49 (F := Ideal) x2 x3 x5 (ix2 p k) = 1 := by
  unfold val_main_v49
  rw [Routing.scatter_set_miss]
  · unfold val_main_v30 val_main_cst_8
    pointwise
  · intro j h
    obtain ⟨u, rfl⟩ : ∃ u : Fin 1000000, j = ix1 u := ⟨j 0, eq_ix1 j⟩
    have hu := u.isLt
    rw [update_lands x2 x5 hx u p k ⟨u.val / 20000, by omega⟩ rfl] at h
    exact hl _ h.2.2 h.2.1

/-! ## The loss -/

/-- The smallest argument the reference's logarithm takes. -/
def tiny : EReal := Ideal.ofBits .f32 0x006CE3EE#32

theorem v63_at (i : S_.Idx) :
    val_main_v63 (F := Ideal) x0 x1 x2 x3 x4 x5 x6 i
      = Ideal.div (∑ p : Fin 20000, ∑ k : Fin 80,
          x0 (ix2 p k) * x1 (ix2 p 0) * val_main_v49 (F := Ideal) x2 x3 x5 (ix2 p k) * (x0 (ix2 p k) * x1 (ix2 p 0) * val_main_v49 (F := Ideal) x2 x3 x5 (ix2 p k))
            * (-x4 (ix2 p k) * max floor (Ideal.log (max tiny (1 - x0 (ix2 p k) * x1 (ix2 p 0) * val_main_v49 (F := Ideal) x2 x3 x5 (ix2 p k))))))
          (((x6 i).toInt : ℝ) : EReal) := by
  rw [val_main_v63_apply, val_main_v61_apply, val_main_v60_apply]
  unfold val_main_v62 val_main_cst_18 val_main_cst_17 val_main_v59 val_main_v58 val_main_v57 val_main_v56 val_main_v55 val_main_call5_v1 val_main_call5_v0 val_main_cst_16 val_main_v54 val_main_v53 val_main_call4_v1 val_main_call4_v0 val_main_cst_15 val_main_v52 val_main_v51 val_main_cst_14 val_main_v50 val_main_v1 val_main_v0
  generalize val_main_v49 (F := Ideal) x2 x3 x5 = w
  rw [sum_idx2]
  pointwise
  rfl

end Cert.RefRead

end
-- ==== Proof.Const.lean ====
/-
  The constants of the two programs, as real numbers.
-/
module

public import proofs.«01_k».proof.Proof.Spec
public import proofs.«01_k».proof.Proof.RefRead

@[expose] public section

noncomputable section

namespace Cert.Const

open Idealize.ShloMosaic Cert.Spec Cert.RefRead

/-- The small constant `1e-12` as the word holds it. -/
def e : ℝ := 9223372 / 2 ^ 63

/-- The distance of the scores' bound from one. -/
def δ : ℝ := 1 / 2 ^ 23

theorem eps_eq : eps = ((e : ℝ) : EReal) := by
  unfold eps e
  simp [Ideal.ofBits, Ideal.ieee, -EReal.coe_mul]; norm_num
theorem half_eq : half = ((1 / 2 : ℝ) : EReal) := by
  unfold half
  simp [Ideal.ofBits, Ideal.ieee, -EReal.coe_mul]; norm_num
theorem two_eq : two = ((2 : ℝ) : EReal) := by
  unfold two
  simp [Ideal.ofBits, Ideal.ieee, -EReal.coe_mul]; norm_num
theorem floor_eq : Spec.floor = ((-100 : ℝ) : EReal) := by
  unfold Spec.floor
  simp [Ideal.ofBits, Ideal.ieee, -EReal.coe_mul, -EReal.coe_neg]; norm_num
theorem big_eq : big = ((13234890 * 2 ^ 76 : ℝ) : EReal) := by
  unfold big
  simp [Ideal.ofBits, Ideal.ieee, -EReal.coe_mul]
theorem low_eq : low = ((-(13234890 * 2 ^ 76) : ℝ) : EReal) := by
  unfold low
  simp [Ideal.ofBits, Ideal.ieee, -EReal.coe_mul, -EReal.coe_neg]
theorem tiny_eq : tiny = ((7136238 / 2 ^ 149 : ℝ) : EReal) := by
  unfold tiny
  simp [Ideal.ofBits, Ideal.ieee, -EReal.coe_mul]; norm_num
theorem top_eq : Ideal.ofBits .f32 0x3F7FFFFE#32 = ((1 - δ : ℝ) : EReal) := by
  unfold δ
  simp [Ideal.ofBits, Ideal.ieee, -EReal.coe_mul, -EReal.coe_sub]; norm_num

theorem e_pos : 0 < e := by unfold e; norm_num
theorem e_le : e ≤ δ := by unfold e δ; norm_num
theorem δ_pos : 0 < δ := by unfold δ; norm_num
theorem δ_le : δ ≤ 1 := by unfold δ; norm_num

end Cert.Const

end
-- ==== Proof.Drawn.lean ====
/-
  The precondition, decoded: the scores, the objectness and the overlaps are real numbers from zero to just below one, no
  label is negative, the weights are one and the averaging factor is the number of positions.
-/
module

public import proofs.«01_k».proof.Proof.Const
public import proofs.«01_k».proof.Proof.Gen.Pre_drawn

@[expose] public section

set_option maxRecDepth 16384

noncomputable section

namespace Cert.Drawn

open Idealize.ShloMosaic Cert.Spec Cert.RefRead Cert.Const

/-- The arrays are the real arrays `c`, `o`, `x`, all from zero to `1 - δ`, and no label is negative. -/
structure Ranged (A : Args) (c : Fin 20000 → Fin 80 → ℝ) (o : Fin 20000 → ℝ) (x : Fin 20000 → Fin 50 → ℝ) : Prop where
  cls : ∀ p k, A.cls p k = ((c p k : ℝ) : EReal)
  obj : ∀ p, A.obj p = ((o p : ℝ) : EReal)
  io : ∀ p g, A.io p g = ((x p g : ℝ) : EReal)
  cls_mem : ∀ p k, 0 ≤ c p k ∧ c p k ≤ 1 - δ
  obj_mem : ∀ p, 0 ≤ o p ∧ o p ≤ 1 - δ
  io_mem : ∀ p g, 0 ≤ x p g ∧ x p g ≤ 1 - δ
  lab : ∀ g, (A.lab g).toNat < 2 ^ 31

/-- An extended real between two real numbers is one. -/
theorem real_of_mem {v : EReal} {b : ℝ} (h0 : 0 ≤ v) (h1 : v ≤ ((b : ℝ) : EReal)) : ∃ r : ℝ, v = ((r : ℝ) : EReal) ∧ 0 ≤ r ∧ r ≤ b := by
  induction v with
  | bot => exact absurd h0 (by decide)
  | top => exact absurd h1 (not_le.2 (EReal.coe_lt_top b))
  | coe r => exact ⟨r, rfl, EReal.coe_nonneg.1 h0, EReal.coe_le_coe_iff.1 h1⟩

variable (x0 : Pre_drawn.S20000x80.Idx → EReal) (x1 : Pre_drawn.S20000x1.Idx → EReal) (x2 : Pre_drawn.S50.Idx → BitVec 32)
  (x3 : Pre_drawn.S20000x50.Idx → EReal) (x4 : Pre_drawn.S20000x80.Idx → EReal) (x5 : Pre_drawn.S20000x50.Idx → BitVec 1)
  (x6 : Pre_drawn.S_.Idx → BitVec 32)

/-- The bit of a range check over the scores' range, set. -/
theorem in_range {v : EReal}
    (h : IntOp.andi (BitVec.ofBool (decide (0 ≤ v))) (BitVec.ofBool (decide (v ≤ Ideal.ofBits FTy.f32 0x3F7FFFFE#32))) = 1#1) :
    ∃ r : ℝ, v = ((r : ℝ) : EReal) ∧ 0 ≤ r ∧ r ≤ 1 - δ := by
  rw [WordCmp.andi_ofBool, ← Bool.decide_and, WordCmp.ofBool_decide_eq_one_iff, top_eq] at h
  exact real_of_mem h.1 h.2

theorem cls_at (h : (Pre_drawn.fn (F := Ideal) x0 x1 x2 x3 x4 x5 x6).1 = fun _ => 1#1) (p : Fin 20000) (k : Fin 80) :
    ∃ r : ℝ, x0 (ix2 p k) = ((r : ℝ) : EReal) ∧ 0 ≤ r ∧ r ≤ 1 - δ := by
  have h := congrFun h (ix2 p k)
  unfold Pre_drawn.fn Pre_drawn.fn_part1 at h
  dsimp only at h
  pointwise at h
  exact in_range h

theorem obj_at (h : (Pre_drawn.fn (F := Ideal) x0 x1 x2 x3 x4 x5 x6).2.1 = fun _ => 1#1) (p : Fin 20000) :
    ∃ r : ℝ, x1 (ix2 p 0) = ((r : ℝ) : EReal) ∧ 0 ≤ r ∧ r ≤ 1 - δ := by
  have h := congrFun h (ix2 p 0)
  unfold Pre_drawn.fn Pre_drawn.fn_part1 at h
  dsimp only at h
  pointwise at h
  exact in_range h

theorem lab_at (h : (Pre_drawn.fn (F := Ideal) x0 x1 x2 x3 x4 x5 x6).2.2.1 = fun _ => 1#1) (g : Fin 50) : (x2 (ix1 g)).toNat < 2 ^ 31 := by
  have h := congrFun h (ix1 g)
  unfold Pre_drawn.fn Pre_drawn.fn_part1 at h
  dsimp only at h
  pointwise at h
  rw [WordCmp.cmpi_sge_eq, WordCmp.ofBool_decide_eq_one_iff, BitVec.toInt_eq_toNat_cond (x2 (ix1 g))] at h
  have h0 : (0#32).toInt = 0 := by decide
  have hlt := (x2 (ix1 g)).isLt
  rw [h0] at h
  split at h <;> omega

theorem io_at (h : (Pre_drawn.fn (F := Ideal) x0 x1 x2 x3 x4 x5 x6).2.2.2.1 = fun _ => 1#1) (p : Fin 20000) (g : Fin 50) :
    ∃ r : ℝ, x3 (ix2 p g) = ((r : ℝ) : EReal) ∧ 0 ≤ r ∧ r ≤ 1 - δ := by
  have h := congrFun h (ix2 p g)
  unfold Pre_drawn.fn Pre_drawn.fn_part1 at h
  dsimp only at h
  pointwise at h
  exact in_range h

theorem label_weight_at (h : (Pre_drawn.fn (F := Ideal) x0 x1 x2 x3 x4 x5 x6).2.2.2.2.1 = fun _ => 1#1) (p : Fin 20000) (k : Fin 80) :
    x4 (ix2 p k) = 1 := by
  have h := congrFun h (ix2 p k)
  unfold Pre_drawn.fn Pre_drawn.fn_part1 at h
  dsimp only at h
  pointwise at h
  exact (WordCmp.ofBool_decide_eq_one_iff _).1 h

theorem avg_factor_at (h : (Pre_drawn.fn (F := Ideal) x0 x1 x2 x3 x4 x5 x6).2.2.2.2.2 = fun _ => 1#1) (i : Pre_drawn.S_.Idx) :
    x6 i = 20000#32 := by
  have h := congrFun h i
  unfold Pre_drawn.fn Pre_drawn.fn_part1 at h
  dsimp only at h
  pointwise at h
  rw [WordCmp.cmpi_eq_eq, WordCmp.ofBool_decide_eq_one_iff] at h
  exact h

/-- The precondition, as the ranges of the arrays at coordinates. -/
theorem ranged
    (h0 : (Pre_drawn.fn (F := Ideal) x0 x1 x2 x3 x4 x5 x6).1 = fun _ => 1#1)
    (h1 : (Pre_drawn.fn (F := Ideal) x0 x1 x2 x3 x4 x5 x6).2.1 = fun _ => 1#1)
    (h2 : (Pre_drawn.fn (F := Ideal) x0 x1 x2 x3 x4 x5 x6).2.2.1 = fun _ => 1#1)
    (h3 : (Pre_drawn.fn (F := Ideal) x0 x1 x2 x3 x4 x5 x6).2.2.2.1 = fun _ => 1#1) :
    ∃ c o x, Ranged (arrays x0 x1 x2 x3 x5) c o x := by
  choose c hc using cls_at x0 x1 x2 x3 x4 x5 x6 h0
  choose o ho using obj_at x0 x1 x2 x3 x4 x5 x6 h1
  choose x hx using io_at x0 x1 x2 x3 x4 x5 x6 h3
  exact ⟨c, o, x, fun p k => (hc p k).1, fun p => (ho p).1, fun p g => (hx p g).1, fun p k => (hc p k).2, fun p => (ho p).2,
    fun p g => (hx p g).2, lab_at x0 x1 x2 x3 x4 x5 x6 h2⟩

end Cert.Drawn

end
-- ==== Proof.Column.lean ====
/-
  One ground-truth column: the kernel's least and greatest weights are the reference's, and so is its normalised weight,
  a real number from zero to one at a marked position.
-/
module

public import proofs.«01_k».proof.Proof.Drawn

@[expose] public section

noncomputable section

namespace Cert.Column

open Idealize.ShloMosaic Cert.Spec Cert.RefRead Cert.Const Cert.Drawn
open scoped BigOperators

/-- A fold of minima is a value that bounds every entry from below and that some entry has. -/
theorem fold_min {n : ℕ} (f : Fin n → EReal) (v : EReal) (h : ∀ i, v ≤ f i) (h' : ∃ i, f i ≤ v) : Finset.univ.fold min ⊤ f = v := by
  obtain ⟨i, hi⟩ := h'
  exact le_antisymm ((Finset.fold_min_le v).2 (.inr ⟨i, Finset.mem_univ i, hi⟩)) ((Finset.le_fold_min v).2 ⟨le_top, fun i _ => h i⟩)

/-- A fold of maxima is a value that bounds every entry from above and that some entry has. -/
theorem fold_max {n : ℕ} (f : Fin n → EReal) (v : EReal) (h : ∀ i, f i ≤ v) (h' : ∃ i, v ≤ f i) : Finset.univ.fold max ⊥ f = v := by
  obtain ⟨i, hi⟩ := h'
  exact le_antisymm ((Finset.fold_max_le v).2 ⟨bot_le, fun i _ => h i⟩) ((Finset.le_fold_max v).2 (.inr ⟨i, Finset.mem_univ i, hi⟩))

/-- The weight of an overlap, over the reals. -/
def f (t : ℝ) : ℝ := 1 / (1 - t)

theorem gap_pos {t : ℝ} (h : t ≤ 1 - δ) : 0 < 1 - t := by have := δ_pos; linarith

theorem f_mono {s t : ℝ} (h : s ≤ t) (ht : t ≤ 1 - δ) : f s ≤ f t :=
  one_div_le_one_div_of_le (gap_pos ht) (by linarith)

theorem f_bounds {t : ℝ} (h0 : 0 ≤ t) (h1 : t ≤ 1 - δ) : 1 ≤ f t ∧ f t ≤ 2 ^ 23 := by
  have h := gap_pos h1
  constructor
  · exact (le_div_iff₀ h).2 (by linarith)
  · refine (div_le_iff₀ h).2 ?_
    unfold δ at h1
    linarith

/-- A quotient of reals is a real. -/
theorem div_real (a : ℝ) {b : ℝ} (hb : b ≠ 0) : Ideal.div ((a : ℝ) : EReal) ((b : ℝ) : EReal) = ((a / b : ℝ) : EReal) := by
  rw [Ideal.div_coe hb, ← EReal.coe_mul, mul_one_div]

/-- The clamped weight of a score in range is the plain one: the clamp never acts. -/
theorem clamped {t : ℝ} (h1 : t ≤ 1 - δ) : max (1 - ((t : ℝ) : EReal)) eps = ((1 - t : ℝ) : EReal) := by
  rw [eps_eq, ← EReal.coe_one, ← EReal.coe_sub]
  exact max_eq_left (EReal.coe_le_coe_iff.2 (by have := e_le; linarith))

theorem weight_real {t : ℝ} (h1 : t ≤ 1 - δ) : Ideal.div 1 ((1 - t : ℝ) : EReal) = ((f t : ℝ) : EReal) := by
  rw [← EReal.coe_one, div_real _ (gap_pos h1).ne']
  rfl

variable {A : Args} {c : Fin 20000 → Fin 80 → ℝ} {o : Fin 20000 → ℝ} {x : Fin 20000 → Fin 50 → ℝ} (hR : Ranged A c o x)
include hR

theorem weight_eq (g : Fin 50) (p : Fin 20000) : weight A g p = ((f (x p g) : ℝ) : EReal) := by
  unfold weight
  rw [max_comm, hR.io, clamped (hR.io_mem p g).2, weight_real (hR.io_mem p g).2]

/-- Every position is a column of one of the two blocks. -/
theorem split_pos (p : Fin 20000) : ∃ (b : ℕ) (j : Fin 10240) (h : b * 10240 + j.val < 20000), (b = 0 ∨ b = 1) ∧ pos b j h = p := by
  have hp := p.isLt
  by_cases h : p.val < 10240
  · exact ⟨0, ⟨p.val, h⟩, by show 0 * 10240 + p.val < 20000; omega, .inl rfl, Fin.ext (by show 0 * 10240 + p.val = p.val; omega)⟩
  · exact ⟨1, ⟨p.val - 10240, by omega⟩, by show 1 * 10240 + (p.val - 10240) < 20000; omega, .inr rfl,
      Fin.ext (by show 1 * 10240 + (p.val - 10240) = p.val; omega)⟩

/-- A marked column's least overlap `x q g`: the kernel's least weight and the reference's are its weight. -/
theorem least_eq (g : Fin 50) (q : Fin 20000) (hq : A.mask q g = 1#1) (hmin : ∀ p, A.mask p g = 1#1 → x q g ≤ x p g) :
    least A g = ((f (x q g) : ℝ) : EReal) ∧ low_weight A g = ((f (x q g) : ℝ) : EReal) := by
  have hbig : ∀ t : ℝ, t ≤ 2 ^ 23 → ((t : ℝ) : EReal) ≤ big := fun t ht => by
    rw [big_eq]
    exact EReal.coe_le_coe_iff.2 (ht.trans (by norm_num))
  have hδ := δ_pos
  constructor
  · have hlo : ∀ b j, ((x q g : ℝ) : EReal) ≤ lo A b g j := fun b j => by
      have hb : ((x q g : ℝ) : EReal) ≤ big := hbig _ ((hR.io_mem q g).2.trans (by linarith))
      unfold lo
      split
      · split
        · next h hm => rw [hR.io]; exact EReal.coe_le_coe_iff.2 (hmin _ hm)
        · exact hb
      · exact hb
    unfold least
    rw [fold_min _ ((x q g : ℝ) : EReal) (fun j => le_min (hlo 0 j) (hlo 1 j)) ?_, clamped (hR.io_mem q g).2, weight_real (hR.io_mem q g).2]
    obtain ⟨b, j, h, hb, rfl⟩ := split_pos hR q
    have e : lo A b g j = ((x (pos b j h) g : ℝ) : EReal) := by
      unfold lo
      rw [dif_pos h, if_pos hq, hR.io]
    rcases hb with rfl | rfl
    · exact ⟨j, (min_le_left _ _).trans e.le⟩
    · exact ⟨j, (min_le_right _ _).trans e.le⟩
  · refine fold_min _ _ (fun p => ?_) ⟨q, ?_⟩
    · split
      · next hm => rw [weight_eq hR]; exact EReal.coe_le_coe_iff.2 (f_mono (hmin p hm) (hR.io_mem p g).2)
      · exact hbig _ (f_bounds (hR.io_mem q g).1 (hR.io_mem q g).2).2
    · rw [if_pos hq, weight_eq hR]

/-- A marked column's greatest overlap `x q g`: the kernel's greatest weight and the reference's are its weight. -/
theorem most_eq (g : Fin 50) (q : Fin 20000) (hq : A.mask q g = 1#1) (hmax : ∀ p, A.mask p g = 1#1 → x p g ≤ x q g) :
    most A g = ((f (x q g) : ℝ) : EReal) ∧ high_weight A g = ((f (x q g) : ℝ) : EReal) := by
  have hlow : ∀ t : ℝ, 0 ≤ t → low ≤ ((t : ℝ) : EReal) := fun t ht => by
    rw [low_eq]
    exact EReal.coe_le_coe_iff.2 (le_trans (by norm_num) ht)
  constructor
  · have hhi : ∀ b j, hi A b g j ≤ ((x q g : ℝ) : EReal) := fun b j => by
      have hb := hlow _ (hR.io_mem q g).1
      unfold hi
      split
      · split
        · next h hm => rw [hR.io]; exact EReal.coe_le_coe_iff.2 (hmax _ hm)
        · exact hb
      · exact hb
    unfold most
    rw [fold_max _ ((x q g : ℝ) : EReal) (fun j => max_le (hhi 0 j) (hhi 1 j)) ?_, clamped (hR.io_mem q g).2, weight_real (hR.io_mem q g).2]
    obtain ⟨b, j, h, hb, rfl⟩ := split_pos hR q
    have e : hi A b g j = ((x (pos b j h) g : ℝ) : EReal) := by
      unfold hi
      rw [dif_pos h, if_pos hq, hR.io]
    rcases hb with rfl | rfl
    · exact ⟨j, e.ge.trans (le_max_left _ _)⟩
    · exact ⟨j, e.ge.trans (le_max_right _ _)⟩
  · refine fold_max _ _ (fun p => ?_) ⟨q, ?_⟩
    · split
      · next hm => rw [weight_eq hR]; exact EReal.coe_le_coe_iff.2 (f_mono (hmax p hm) (hR.io_mem q g).2)
      · exact hlow _ (zero_le_one.trans (f_bounds (hR.io_mem q g).1 (hR.io_mem q g).2).1)
    · rw [if_pos hq, weight_eq hR]

/-- At a marked position the kernel's value and the reference's cost are one real number from zero to one. -/
theorem val_eq (g : Fin 50) (p : Fin 20000) (hp : A.mask p g = 1#1) :
    ∃ v : ℝ, val A g p = ((v : ℝ) : EReal) ∧ cost A g p = ((v : ℝ) : EReal) ∧ 0 ≤ v ∧ v ≤ 1 := by
  classical
  have hne : (Finset.univ.filter fun p => A.mask p g = 1#1).Nonempty := ⟨p, Finset.mem_filter.2 ⟨Finset.mem_univ _, hp⟩⟩
  obtain ⟨q, hq, hmin⟩ := Finset.exists_min_image _ (fun p => x p g) hne
  obtain ⟨r, hr, hmax⟩ := Finset.exists_max_image _ (fun p => x p g) hne
  have hmin' : ∀ p, A.mask p g = 1#1 → x q g ≤ x p g := fun p h => hmin p (Finset.mem_filter.2 ⟨Finset.mem_univ _, h⟩)
  have hmax' : ∀ p, A.mask p g = 1#1 → x p g ≤ x r g := fun p h => hmax p (Finset.mem_filter.2 ⟨Finset.mem_univ _, h⟩)
  obtain ⟨l1, l2⟩ := least_eq hR g q (Finset.mem_filter.1 hq).2 hmin'
  obtain ⟨m1, m2⟩ := most_eq hR g r (Finset.mem_filter.1 hr).2 hmax'
  have h1 := f_mono (hmin' p hp) (hR.io_mem p g).2
  have h2 := f_mono (hmax' p hp) (hR.io_mem r g).2
  have he := e_pos
  have hw : Ideal.div 1 (1 - A.io p g) = ((f (x p g) : ℝ) : EReal) := by
    rw [hR.io, ← weight_real (hR.io_mem p g).2, EReal.coe_sub, EReal.coe_one]
  have hv := weight_eq hR g p
  generalize f (x p g) = w at *
  generalize f (x q g) = a at *
  generalize f (x r g) = b at *
  have hpos : 0 < b - a + e := by linarith
  refine ⟨1 - (w - a + e) / (b - a + e), ?_, ?_, ?_, ?_⟩
  · unfold val scale
    rw [hw, l1, m1, eps_eq, ← EReal.coe_sub, ← EReal.coe_sub, ← EReal.coe_add, ← EReal.coe_add, ← EReal.coe_one, div_real _ hpos.ne', ← EReal.coe_mul,
      ← EReal.coe_sub, mul_one_div]
  · unfold cost
    rw [hv, l2, m2, eps_eq, ← EReal.coe_sub, ← EReal.coe_sub, ← EReal.coe_add, ← EReal.coe_add, ← EReal.coe_one, div_real _ hpos.ne', ← EReal.coe_sub]
  · have := (div_le_one hpos).2 (by linarith : w - a + e ≤ b - a + e)
    linarith
  · have : 0 ≤ (w - a + e) / (b - a + e) := div_nonneg (by linarith) hpos.le
    linarith

end Cert.Column

end
-- ==== Proof.Winner.lean ====
/-
  The factor a class takes at a position: the kernel's sum over the columns picks the last marked column of the class, as
  the reference's scatter does.
-/
module

public import proofs.«01_k».proof.Proof.Column

@[expose] public section

noncomputable section

namespace Cert.Winner

open Idealize.ShloMosaic Cert.Spec Cert.RefRead Cert.Const Cert.Drawn Cert.Column
open scoped BigOperators

variable (A : Args)

/-- Column `g` marks class `k` at position `p`. -/
def Marks (k : Fin 80) (p : Fin 20000) (g : Fin 50) : Prop := BitVec.ofNat 32 k.val = A.lab g ∧ A.mask p g = 1#1

/-- What the kernel multiplies a score by: its sum over the columns, two added, at most one. -/
def factor (k : Fin 80) (p : Fin 20000) : EReal := min ((∑ g, oh A k g * ((val A g p - two) * winner A g p)) + two) 1

theorem oh_cases (k : Fin 80) (g : Fin 50) : oh A k g = 0 ∨ oh A k g = 1 := by
  unfold oh; split <;> simp

theorem oh_nonneg (k : Fin 80) (g : Fin 50) : 0 ≤ oh A k g := by
  rcases oh_cases A k g with h | h <;> rw [h]
  exact zero_le_one

theorem mf_nonneg (g : Fin 50) (p : Fin 20000) : 0 ≤ mf A g p := by
  unfold mf; split
  · exact zero_le_one
  · exact le_rfl

/-- Two columns whose classes differ select no class together. -/
theorem rival_zero {g' g : Fin 50} (h : ¬ (g < g' ∧ A.lab g' = A.lab g)) : rival A g' g = 0 := by
  unfold rival
  split
  · next hlt =>
    refine Finset.sum_eq_zero fun k _ => ?_
    unfold oh
    split
    · next e1 => rw [if_neg fun e2 => h ⟨hlt, e1.symm.trans e2⟩, mul_zero]
    · exact zero_mul _
  · rfl

theorem rival_nonneg (g' g : Fin 50) : 0 ≤ rival A g' g := by
  unfold rival
  split
  · exact Finset.sum_nonneg fun k _ => mul_nonneg (oh_nonneg A k g') (oh_nonneg A k g)
  · exact le_rfl

/-- A later column of the same class is a rival. -/
theorem one_le_rival {g' g : Fin 50} (k : Fin 80) (hlt : g < g') (h' : BitVec.ofNat 32 k.val = A.lab g') (h : BitVec.ofNat 32 k.val = A.lab g) :
    1 ≤ rival A g' g := by
  unfold rival
  rw [if_pos (show g.val < g'.val from hlt)]
  refine le_trans (le_of_eq ?_) (Finset.single_le_sum (f := fun k => oh A k g' * oh A k g) (fun k _ => mul_nonneg (oh_nonneg A k g') (oh_nonneg A k g)) (Finset.mem_univ k))
  unfold oh
  rw [if_pos h', if_pos h, mul_one]

/-- The winner's mask is set at the last marked column of a class, -/
theorem winner_last {k : Fin 80} {p : Fin 20000} {g : Fin 50} (hg : Marks A k p g) (hl : ∀ g', g < g' → ¬ Marks A k p g') : winner A g p = 1 := by
  have hz : ∑ g', rival A g' g * mf A g' p = 0 := Finset.sum_eq_zero fun g' _ => by
    by_cases h : g < g' ∧ A.lab g' = A.lab g
    · have hm : mf A g' p = 0 := if_neg fun hm => hl g' h.1 ⟨hg.1.trans h.2.symm, hm⟩
      rw [hm, mul_zero]
    · rw [rival_zero A h, zero_mul]
  unfold winner
  rw [hz, if_pos (by rw [half_eq]; exact EReal.coe_pos.2 (by norm_num))]
  exact if_pos hg.2

/-- and zero at a column of the class before a marked one, -/
theorem winner_before {k : Fin 80} {p : Fin 20000} {g g' : Fin 50} (hk : BitVec.ofNat 32 k.val = A.lab g) (hlt : g < g') (hg' : Marks A k p g') :
    winner A g p = 0 := by
  unfold winner
  refine if_neg (not_lt.2 ?_)
  refine le_trans ?_ (Finset.single_le_sum (f := fun g' => rival A g' g * mf A g' p) (fun g' _ => mul_nonneg (rival_nonneg A g' g) (mf_nonneg A g' p)) (Finset.mem_univ g'))
  have hm : mf A g' p = 1 := if_pos hg'.2
  show half ≤ rival A g' g * mf A g' p
  rw [hm, mul_one]
  refine le_trans ?_ (one_le_rival A k hlt hg'.1 hk)
  rw [half_eq, ← EReal.coe_one]
  exact EReal.coe_le_coe_iff.2 (by norm_num)

/-- and zero where the column is not marked. -/
theorem winner_unmarked {p : Fin 20000} {g : Fin 50} (h : A.mask p g ≠ 1#1) : winner A g p = 0 := by
  unfold winner
  have hm : mf A g p = 0 := if_neg h
  rw [hm, ite_self]

/-- The factor where no column marks the class: one. -/
theorem factor_none (k : Fin 80) (p : Fin 20000) (h : ∀ g, ¬ Marks A k p g) : factor A k p = 1 := by
  have hz : ∑ g, oh A k g * ((val A g p - two) * winner A g p) = 0 := Finset.sum_eq_zero fun g _ => by
    unfold oh
    split
    · next hk => rw [winner_unmarked A fun hm => h g ⟨hk, hm⟩, mul_zero, mul_zero]
    · exact zero_mul _
  unfold factor
  rw [hz, zero_add, two_eq, ← EReal.coe_one]
  exact min_eq_right (EReal.coe_le_coe_iff.2 (by norm_num))

variable {A} {c : Fin 20000 → Fin 80 → ℝ} {o : Fin 20000 → ℝ} {x : Fin 20000 → Fin 50 → ℝ} (hR : Ranged A c o x)
include hR

/-- The factor where column `g` is the last to mark the class: the reference's cost of that column. -/
theorem factor_last (k : Fin 80) (p : Fin 20000) (g : Fin 50) (hg : Marks A k p g) (hl : ∀ g', g < g' → ¬ Marks A k p g') :
    factor A k p = cost A g p := by
  obtain ⟨v, h1, h2, _, h4⟩ := val_eq hR g p hg.2
  have hs : ∑ g', oh A k g' * ((val A g' p - two) * winner A g' p) = ((v - 2 : ℝ) : EReal) := by
    rw [Finset.sum_eq_single g]
    · have ho : oh A k g = 1 := if_pos hg.1
      rw [ho, one_mul, winner_last A hg hl, mul_one, h1, two_eq, ← EReal.coe_sub]
    · intro g' _ hne
      unfold oh
      split
      · next hk =>
        have hw : winner A g' p = 0 := by
          by_cases hm : A.mask p g' = 1#1
          · rcases lt_or_gt_of_ne hne with hlt | hlt
            · exact winner_before A hk hlt hg
            · exact absurd ⟨hk, hm⟩ (hl g' hlt)
          · exact winner_unmarked A hm
        rw [hw, mul_zero, mul_zero]
      · exact zero_mul _
    · exact fun h => absurd (Finset.mem_univ g) h
  unfold factor
  rw [hs, two_eq, ← EReal.coe_add, ← EReal.coe_one, h2]
  have : v - 2 + 2 = v := by ring
  rw [this]
  exact min_eq_left (EReal.coe_le_coe_iff.2 h4)

/-- The factor is a real number from zero to one. -/
theorem factor_real (k : Fin 80) (p : Fin 20000) : ∃ w : ℝ, factor A k p = ((w : ℝ) : EReal) ∧ 0 ≤ w ∧ w ≤ 1 := by
  classical
  by_cases h : ∃ g, Marks A k p g
  · obtain ⟨g, hg, hmax⟩ := Finset.exists_max_image (Finset.univ.filter fun g => Marks A k p g) id
      (h.imp fun g hg => Finset.mem_filter.2 ⟨Finset.mem_univ _, hg⟩)
    have hg' := (Finset.mem_filter.1 hg).2
    obtain ⟨v, _, h2, h3, h4⟩ := val_eq hR g p hg'.2
    exact ⟨v, (factor_last hR k p g hg' fun g' hlt hm => absurd (hmax g' (Finset.mem_filter.2 ⟨Finset.mem_univ _, hm⟩)) (not_le.2 hlt)).trans h2, h3, h4⟩
  · exact ⟨1, factor_none A k p fun g hg => h ⟨g, hg⟩, zero_le_one, le_rfl⟩

end Cert.Winner

/-! ## The reference's scattered array -/

namespace Cert.Winner

open Idealize.ShloMosaic Cert.ReferenceIdeal Cert.ReferenceIdeal.Read Cert.Spec Cert.RefRead Cert.Drawn

variable (x0 : S20000x80.Idx → EReal) (x1 : S20000x1.Idx → EReal) (x2 : S50.Idx → BitVec 32) (x3 : S20000x50.Idx → EReal)
  (x5 : S20000x50.Idx → BitVec 1) {c : Fin 20000 → Fin 80 → ℝ} {o : Fin 20000 → ℝ} {x : Fin 20000 → Fin 50 → ℝ}
  (hR : Ranged (arrays x0 x1 x2 x3 x5) c o x)
include hR

/-- The reference's weight of a class at a position is the kernel's factor. -/
theorem scattered (p : Fin 20000) (k : Fin 80) :
    val_main_v49 (F := Ideal) x2 x3 x5 (ix2 p k) = factor (arrays x0 x1 x2 x3 x5) k p := by
  classical
  have hx : ∀ g, (x2 g).toNat < 2 ^ 31 := fun j => by
    obtain ⟨g, rfl⟩ : ∃ g : Fin 50, j = ix1 g := ⟨j 0, eq_ix1 j⟩
    exact hR.lab g
  by_cases h : ∃ g, Marks (arrays x0 x1 x2 x3 x5) k p g
  · obtain ⟨g, hg, hmax⟩ := Finset.exists_max_image (Finset.univ.filter fun g => Marks (arrays x0 x1 x2 x3 x5) k p g) id
      (h.imp fun g hg => Finset.mem_filter.2 ⟨Finset.mem_univ _, hg⟩)
    have hg' := (Finset.mem_filter.1 hg).2
    have hl : ∀ g', g < g' → ¬ Marks (arrays x0 x1 x2 x3 x5) k p g' := fun g' hlt hm =>
      absurd (hmax g' (Finset.mem_filter.2 ⟨Finset.mem_univ _, hm⟩)) (not_le.2 hlt)
    rw [factor_last hR k p g hg' hl]
    exact v49_hit x0 x1 x2 x3 x5 hx p k g hg'.2 hg'.1 fun g' hlt hk hm => hl g' hlt ⟨hk, hm⟩
  · rw [factor_none _ k p fun g hg => h ⟨g, hg⟩]
    exact v49_miss x2 x3 x5 hx p k fun g hk hm => h ⟨g, hk, hm⟩

end Cert.Winner

end
-- ==== Proof.Loss.lean ====
/-
  The loss: the kernel's two negated and averaged block sums are the reference's sum over all classes and positions,
  divided by the averaging factor.
-/
module

public import proofs.«01_k».proof.Proof.Winner

@[expose] public section

set_option maxRecDepth 16384

noncomputable section

namespace Cert.Loss

open Idealize.ShloMosaic Cert.Spec Cert.RefRead Cert.Const Cert.Drawn Cert.Column Cert.Winner
open scoped BigOperators

/-- A finite sum of real numbers is a real number. -/
theorem coe_sum {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

/-- The maximum of two real numbers, among the extended ones. -/
theorem coe_max (a b : ℝ) : ((max a b : ℝ) : EReal) = max ((a : ℝ) : EReal) ((b : ℝ) : EReal) := EReal.coe_strictMono.monotone.map_max

/-- A sum over the positions is the sum over the first block's columns plus the sum over the second's inside the array. -/
theorem sum_blocks (f : Fin 20000 → ℝ) :
    ∑ p, f p = (∑ j : Fin 10240, if h : 0 * 10240 + j.val < 20000 then f (pos 0 j h) else 0)
      + ∑ j : Fin 10240, if h : 1 * 10240 + j.val < 20000 then f (pos 1 j h) else 0 := by
  let F : ℕ → ℝ := fun n => if h : n < 20000 then f ⟨n, h⟩ else 0
  have h0 : ∀ b : ℕ, (∑ j : Fin 10240, if h : b * 10240 + j.val < 20000 then f (pos b j h) else 0) = ∑ n ∈ Finset.range 10240, F (b * 10240 + n) := fun b =>
    Fin.sum_univ_eq_sum_range (fun n => F (b * 10240 + n)) 10240
  have h1 : ∑ p, f p = ∑ n ∈ Finset.range 20000, F n := by
    rw [← Fin.sum_univ_eq_sum_range]
    exact Finset.sum_congr rfl fun p _ => (dif_pos (c := p.val < 20000) p.isLt : F p.val = f p).symm
  have h2 : ∑ n ∈ Finset.range (10240 + 10240), F n = ∑ n ∈ Finset.range 20000, F n := by
    refine (Finset.sum_subset (Finset.range_subset_range.2 (by norm_num)) fun n _ hn => ?_).symm
    exact dif_neg fun h => hn (Finset.mem_range.2 h)
  rw [h0 0, h0 1, h1, ← h2, Finset.sum_range_add]
  simp only [Nat.zero_mul, Nat.zero_add, Nat.one_mul]

variable {A : Args} {c : Fin 20000 → Fin 80 → ℝ} {o : Fin 20000 → ℝ} {x : Fin 20000 → Fin 50 → ℝ} (hR : Ranged A c o x)
include hR

/-- The weighted score of a class at a position is a real number from zero to `1 - δ`. -/
theorem joint_real (k : Fin 80) (p : Fin 20000) : ∃ z : ℝ, joint A k p = ((z : ℝ) : EReal) ∧ z ≤ 1 - δ := by
  obtain ⟨w, hw, w0, w1⟩ := factor_real hR k p
  obtain ⟨c0, c1⟩ := hR.cls_mem p k
  obtain ⟨o0, o1⟩ := hR.obj_mem p
  have hδ := δ_pos
  refine ⟨c p k * o p * w, ?_, ?_⟩
  · show A.cls p k * A.obj p * factor A k p = _
    rw [hR.cls, hR.obj, hw, ← EReal.coe_mul, ← EReal.coe_mul]
  · have h1 : c p k * o p ≤ c p k := mul_le_of_le_one_right c0 (by linarith)
    have h2 : c p k * o p * w ≤ c p k * o p := mul_le_of_le_one_right (mul_nonneg c0 o0) w1
    linarith

/-- A term of the kernel's sum is a real number, and the reference's term is its negation: the clamp of the logarithm's
    argument never acts. -/
theorem term_real (k : Fin 80) (p : Fin 20000) : ∃ t : ℝ, term A k p = ((t : ℝ) : EReal)
    ∧ joint A k p * joint A k p * (-1 * max Spec.floor (Ideal.log (max tiny (1 - joint A k p)))) = ((-t : ℝ) : EReal) := by
  obtain ⟨z, hz, hz1⟩ := joint_real hR k p
  have hpos := gap_pos hz1
  have hl : Ideal.log (1 - ((z : ℝ) : EReal)) = ((Real.log (1 - z) : ℝ) : EReal) := by
    rw [← EReal.coe_one, ← EReal.coe_sub, Ideal.log_coe, if_neg (not_le.2 hpos)]
  have ht : max tiny (1 - ((z : ℝ) : EReal)) = 1 - ((z : ℝ) : EReal) := by
    rw [tiny_eq, ← EReal.coe_one, ← EReal.coe_sub]
    refine max_eq_right (EReal.coe_le_coe_iff.2 ?_)
    have : (7136238 / 2 ^ 149 : ℝ) ≤ δ := by unfold δ; norm_num
    linarith
  refine ⟨z * z * max (Real.log (1 - z)) (-100), ?_, ?_⟩
  · unfold term
    rw [hz, hl, floor_eq, ← coe_max, ← EReal.coe_mul, ← EReal.coe_mul]
  · rw [hz, ht, hl, floor_eq, ← coe_max, ← EReal.coe_one, ← EReal.coe_neg, ← EReal.coe_mul, ← EReal.coe_mul, ← EReal.coe_mul, max_comm]
    exact congrArg _ (by ring)

/-- The kernel's result is the reference's quotient. -/
theorem acc_eq : acc A 3
    = Ideal.div (∑ p : Fin 20000, ∑ k : Fin 80, joint A k p * joint A k p * (-1 * max Spec.floor (Ideal.log (max tiny (1 - joint A k p)))))
        ((20000 : ℝ) : EReal) := by
  choose t ht ht' using term_real hR
  have hb : ∀ b, blockSum A b = ((∑ k, ∑ j : Fin 10240, if h : b * 10240 + j.val < 20000 then t k (pos b j h) else 0 : ℝ) : EReal) := fun b => by
    unfold blockSum
    rw [← coe_sum]
    refine Finset.sum_congr rfl fun k _ => ?_
    rw [← coe_sum]
    refine Finset.sum_congr rfl fun j _ => ?_
    split
    · exact ht _ _
    · rfl
  have hs : ∑ p : Fin 20000, ∑ k : Fin 80, joint A k p * joint A k p * (-1 * max Spec.floor (Ideal.log (max tiny (1 - joint A k p))))
      = ((∑ p, ∑ k, -t k p : ℝ) : EReal) := by
    rw [← coe_sum]
    refine Finset.sum_congr rfl fun p _ => ?_
    rw [← coe_sum]
    exact Finset.sum_congr rfl fun k _ => ht' k p
  have hc : ∑ p, ∑ k, -t k p = -((∑ k, ∑ j : Fin 10240, if h : 0 * 10240 + j.val < 20000 then t k (pos 0 j h) else 0)
      + ∑ k, ∑ j : Fin 10240, if h : 1 * 10240 + j.val < 20000 then t k (pos 1 j h) else 0) := by
    rw [Finset.sum_comm, ← Finset.sum_add_distrib, ← Finset.sum_neg_distrib]
    refine Finset.sum_congr rfl fun k _ => ?_
    rw [Finset.sum_neg_distrib, sum_blocks]
  rw [hs, div_real _ (by norm_num), hc]
  show (0 : EReal) + (0 - blockSum A 0) * ((1 / 20000 : ℝ) : EReal) + (0 - blockSum A 1) * ((1 / 20000 : ℝ) : EReal) = _
  rw [hb 0, hb 1, ← EReal.coe_zero, ← EReal.coe_sub, ← EReal.coe_sub, ← EReal.coe_mul, ← EReal.coe_mul, ← EReal.coe_add, ← EReal.coe_add]
  exact congrArg _ (by ring)

end Cert.Loss

/-! ## The reference's result -/

namespace Cert.Loss

open Idealize.ShloMosaic Cert.ReferenceIdeal Cert.ReferenceIdeal.Read Cert.Spec Cert.RefRead Cert.Drawn Cert.Winner

variable (x0 : S20000x80.Idx → EReal) (x1 : S20000x1.Idx → EReal) (x2 : S50.Idx → BitVec 32) (x3 : S20000x50.Idx → EReal)
  (x4 : S20000x80.Idx → EReal) (x5 : S20000x50.Idx → BitVec 1) (x6 : S_.Idx → BitVec 32)
  {c : Fin 20000 → Fin 80 → ℝ} {o : Fin 20000 → ℝ} {x : Fin 20000 → Fin 50 → ℝ} (hR : Ranged (arrays x0 x1 x2 x3 x5) c o x)
  (h4 : ∀ p k, x4 (ix2 p k) = 1) (h6 : ∀ i, x6 i = 20000#32)
include hR h4 h6

/-- Under the precondition the reference's loss is the kernel's. -/
theorem reference_eq : val_main_v63 (F := Ideal) x0 x1 x2 x3 x4 x5 x6 = fun _ => acc (arrays x0 x1 x2 x3 x5) 3 := by
  funext i
  rw [v63_at, acc_eq hR, h6]
  have hn : (((20000#32).toInt : ℝ) : EReal) = ((20000 : ℝ) : EReal) := by
    have : (20000#32).toInt = 20000 := by decide
    rw [this]
    norm_num
  rw [hn]
  refine congrArg₂ Ideal.div ?_ rfl
  refine Finset.sum_congr rfl fun p _ => ?_
  refine Finset.sum_congr rfl fun k _ => ?_
  rw [scattered x0 x1 x2 x3 x5 hR, h4]
  rfl

end Cert.Loss

end
-- ==== Proof.lean ====
/- The claims, assembled: the runs of the kernel, of the ideal kernel and of the reference, and the equality of the last two's results. -/
module

public import proofs.«01_k».proof.Defs
public import proofs.«01_k».proof.Proof.KernelRun
public import proofs.«01_k».proof.Proof.Launch
public import proofs.«01_k».proof.Proof.Loss
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_drawn
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The ideal kernel ends with its arguments as launched and every counter at zero. -/
theorem kernelIdeal_quiescent : Cert.quiescent_KernelIdeal := fun m g _ =>
  (θ_run Cert.KernelIdeal.defs _ _).mono (fun _ h => ⟨fun c => (h.1 c).2, h.2⟩) (Cert.Launch.frame_run m g)

/-- The reference ends with its arguments as launched and every counter at zero: it has no counters. -/
theorem reference_quiescent : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

/-- Under the precondition, the reference on the kernel's arguments computes what the kernel accumulates. -/
theorem reference_value (m : (ℓ : Loc Cert.KernelIdeal.nD Cert.KernelIdeal.τ Cert.KernelIdeal.sig) → Buf (Elt Ideal) ℓ)
    (h : Cert.Pre_KernelIdeal_drawn m) (c : Dev Cert.KernelIdeal.nD) :
    Cert.ReferenceIdeal.Read.val_main_v63 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      = fun _ => Cert.Spec.acc (Cert.Launch.args m c) 3 := by
  obtain ⟨h0, h1, h2, h3, h4, h5⟩ := h c
  obtain ⟨_, _, _, hR⟩ := Cert.Drawn.ranged _ _ _ _ _ _ _ h0 h1 h2 h3
  exact Cert.Loss.reference_eq _ _ _ _ _ _ _ hR (Cert.Drawn.label_weight_at _ _ _ _ _ _ _ h4) (Cert.Drawn.avg_factor_at _ _ _ _ _ _ _ h5)

/-- From equal arguments that satisfy the precondition, the ideal kernel and the reference end with the same loss. -/
theorem value : Cert.algebraic_KernelIdeal_ReferenceIdeal_pre_drawn := by
  intro m g m' g' hpre hargs
  refine ⟨fun c => fun _ => Cert.Spec.acc (Cert.Launch.args m c) 3,
    (θ_run Cert.KernelIdeal.defs _ _).mono (fun _ h => h.1) (Cert.Launch.frame_run m g),
    (θ_run Cert.ReferenceIdeal.defs _ _).mono (fun r h c => ⟨(h c).1.trans ?_, (h c).2⟩) (Cert.ReferenceIdeal.Value.run (F := Ideal) m' g')⟩
  obtain ⟨e0, e1, e2, e3, e4, e5, e6⟩ := hargs c
  rw [Cert.ReferenceIdeal.Read.val_main_v63_eq, e0, e1, e2, e3, e4, e5, e6]
  exact reference_value m hpre c

/-- All the claims. -/
theorem claim : Cert.Claim :=
  ⟨Cert.Kernel.Gen.facts, Cert.KernelIdeal.Gen.facts, Cert.ReferenceIdeal.Gen.facts, Cert.Pre_drawn.Gen.facts,
    fun m g _ => Cert.KernelRun.frame_run m g,
    kernelIdeal_quiescent,
    fun m g _ => kernelIdeal_quiescent m g trivial,
    reference_quiescent,
    fun m g _ => reference_quiescent m g trivial,
    IdealRules.named_const.statement Cert.KernelIdeal.κ "inv_avg" .f32 0x3851B717#32 ((1 / 20000 : ℝ) : EReal) rfl,
    value⟩

end Cert.Proof

end
